-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S31x1x1024 : Shape := ⟨3, ![31, 1, 1024]⟩
abbrev S31 : Shape := ⟨1, ![31]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S1x1024, .bf16⟩
  | .local _ .vmem, ⟨0, _⟩ => ⟨S2048x1024, .bf16⟩
  | .local _ .vmem, ⟨1, _⟩ => ⟨S1x1024, .bf16⟩
  | .local _ .vmem, ⟨2, _⟩ => ⟨S1x1024, .bf16⟩
  | .local _ .vmem, ⟨3, _⟩ => ⟨S31x1x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_dev16 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 32 := Scalar.xori v2 c16_i32
  let c1_i32_46 : BitVec 32 := 1#32
  let v50 : BitVec 32 := Scalar.muli v49 c1_i32_46
  let v51 : BitVec 32 := Scalar.addi c0_i32_47 v50
  v51.toNat
def k0_dev17 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 32 := Scalar.xori v2 c17_i32
  let c1_i32_49 : BitVec 32 := 1#32
  let v53 : BitVec 32 := Scalar.muli v52 c1_i32_49
  let v54 : BitVec 32 := Scalar.addi c0_i32_50 v53
  v54.toNat
def k0_dev18 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 32 := Scalar.xori v2 c18_i32
  let c1_i32_52 : BitVec 32 := 1#32
  let v56 : BitVec 32 := Scalar.muli v55 c1_i32_52
  let v57 : BitVec 32 := Scalar.addi c0_i32_53 v56
  v57.toNat
def k0_dev19 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 32 := Scalar.xori v2 c19_i32
  let c1_i32_55 : BitVec 32 := 1#32
  let v59 : BitVec 32 := Scalar.muli v58 c1_i32_55
  let v60 : BitVec 32 := Scalar.addi c0_i32_56 v59
  v60.toNat
def k0_dev20 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 32 := Scalar.xori v2 c20_i32
  let c1_i32_58 : BitVec 32 := 1#32
  let v62 : BitVec 32 := Scalar.muli v61 c1_i32_58
  let v63 : BitVec 32 := Scalar.addi c0_i32_59 v62
  v63.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 32 := Scalar.xori v2 c21_i32
  let c1_i32_61 : BitVec 32 := 1#32
  let v65 : BitVec 32 := Scalar.muli v64 c1_i32_61
  let v66 : BitVec 32 := Scalar.addi c0_i32_62 v65
  v66.toNat
def k0_dev22 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.xori v2 c22_i32
  let c1_i32_64 : BitVec 32 := 1#32
  let v68 : BitVec 32 := Scalar.muli v67 c1_i32_64
  let v69 : BitVec 32 := Scalar.addi c0_i32_65 v68
  v69.toNat
def k0_dev23 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 32 := Scalar.xori v2 c23_i32
  let c1_i32_67 : BitVec 32 := 1#32
  let v71 : BitVec 32 := Scalar.muli v70 c1_i32_67
  let v72 : BitVec 32 := Scalar.addi c0_i32_68 v71
  v72.toNat
def k0_dev24 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 32 := Scalar.xori v2 c24_i32
  let c1_i32_70 : BitVec 32 := 1#32
  let v74 : BitVec 32 := Scalar.muli v73 c1_i32_70
  let v75 : BitVec 32 := Scalar.addi c0_i32_71 v74
  v75.toNat
def k0_dev25 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.xori v2 c25_i32
  let c1_i32_73 : BitVec 32 := 1#32
  let v77 : BitVec 32 := Scalar.muli v76 c1_i32_73
  let v78 : BitVec 32 := Scalar.addi c0_i32_74 v77
  v78.toNat
def k0_dev26 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 32 := Scalar.xori v2 c26_i32
  let c1_i32_76 : BitVec 32 := 1#32
  let v80 : BitVec 32 := Scalar.muli v79 c1_i32_76
  let v81 : BitVec 32 := Scalar.addi c0_i32_77 v80
  v81.toNat
def k0_dev27 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 32 := Scalar.xori v2 c27_i32
  let c1_i32_79 : BitVec 32 := 1#32
  let v83 : BitVec 32 := Scalar.muli v82 c1_i32_79
  let v84 : BitVec 32 := Scalar.addi c0_i32_80 v83
  v84.toNat
def k0_dev28 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 32 := Scalar.xori v2 c28_i32
  let c1_i32_82 : BitVec 32 := 1#32
  let v86 : BitVec 32 := Scalar.muli v85 c1_i32_82
  let v87 : BitVec 32 := Scalar.addi c0_i32_83 v86
  v87.toNat
def k0_dev29 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 32 := Scalar.xori v2 c29_i32
  let c1_i32_85 : BitVec 32 := 1#32
  let v89 : BitVec 32 := Scalar.muli v88 c1_i32_85
  let v90 : BitVec 32 := Scalar.addi c0_i32_86 v89
  v90.toNat
def k0_dev30 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 32 := Scalar.xori v2 c30_i32
  let c1_i32_88 : BitVec 32 := 1#32
  let v92 : BitVec 32 := Scalar.muli v91 c1_i32_88
  let v93 : BitVec 32 := Scalar.addi c0_i32_89 v92
  v93.toNat
def k0_dev31 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 32 := Scalar.xori v2 c31_i32
  let c1_i32_91 : BitVec 32 := 1#32
  let v95 : BitVec 32 := Scalar.muli v94 c1_i32_91
  let v96 : BitVec 32 := Scalar.addi c0_i32_92 v95
  v96.toNat
def k0_dev32 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_97 : BitVec 32 := 1#32
  let v104 : BitVec 32 := Scalar.xori v2 c1_i32_97
  let c1_i32_101 : BitVec 32 := 1#32
  let v105 : BitVec 32 := Scalar.muli v104 c1_i32_101
  let v106 : BitVec 32 := Scalar.addi c0_i32_102 v105
  v106.toNat
def k0_dev33 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_105 : BitVec 32 := 2#32
  let v113 : BitVec 32 := Scalar.xori v2 c2_i32_105
  let c1_i32_109 : BitVec 32 := 1#32
  let v114 : BitVec 32 := Scalar.muli v113 c1_i32_109
  let v115 : BitVec 32 := Scalar.addi c0_i32_110 v114
  v115.toNat
def k0_dev34 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_113 : BitVec 32 := 3#32
  let v122 : BitVec 32 := Scalar.xori v2 c3_i32_113
  let c1_i32_117 : BitVec 32 := 1#32
  let v123 : BitVec 32 := Scalar.muli v122 c1_i32_117
  let v124 : BitVec 32 := Scalar.addi c0_i32_118 v123
  v124.toNat
def k0_dev35 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_121 : BitVec 32 := 4#32
  let v131 : BitVec 32 := Scalar.xori v2 c4_i32_121
  let c1_i32_125 : BitVec 32 := 1#32
  let v132 : BitVec 32 := Scalar.muli v131 c1_i32_125
  let v133 : BitVec 32 := Scalar.addi c0_i32_126 v132
  v133.toNat
def k0_dev36 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_129 : BitVec 32 := 5#32
  let v140 : BitVec 32 := Scalar.xori v2 c5_i32_129
  let c1_i32_133 : BitVec 32 := 1#32
  let v141 : BitVec 32 := Scalar.muli v140 c1_i32_133
  let v142 : BitVec 32 := Scalar.addi c0_i32_134 v141
  v142.toNat
def k0_dev37 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_137 : BitVec 32 := 6#32
  let v149 : BitVec 32 := Scalar.xori v2 c6_i32_137
  let c1_i32_141 : BitVec 32 := 1#32
  let v150 : BitVec 32 := Scalar.muli v149 c1_i32_141
  let v151 : BitVec 32 := Scalar.addi c0_i32_142 v150
  v151.toNat
def k0_dev38 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_145 : BitVec 32 := 7#32
  let v158 : BitVec 32 := Scalar.xori v2 c7_i32_145
  let c1_i32_149 : BitVec 32 := 1#32
  let v159 : BitVec 32 := Scalar.muli v158 c1_i32_149
  let v160 : BitVec 32 := Scalar.addi c0_i32_150 v159
  v160.toNat
def k0_dev39 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_153 : BitVec 32 := 8#32
  let v167 : BitVec 32 := Scalar.xori v2 c8_i32_153
  let c1_i32_157 : BitVec 32 := 1#32
  let v168 : BitVec 32 := Scalar.muli v167 c1_i32_157
  let v169 : BitVec 32 := Scalar.addi c0_i32_158 v168
  v169.toNat
def k0_dev40 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_161 : BitVec 32 := 9#32
  let v176 : BitVec 32 := Scalar.xori v2 c9_i32_161
  let c1_i32_165 : BitVec 32 := 1#32
  let v177 : BitVec 32 := Scalar.muli v176 c1_i32_165
  let v178 : BitVec 32 := Scalar.addi c0_i32_166 v177
  v178.toNat
def k0_dev41 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_169 : BitVec 32 := 10#32
  let v185 : BitVec 32 := Scalar.xori v2 c10_i32_169
  let c1_i32_173 : BitVec 32 := 1#32
  let v186 : BitVec 32 := Scalar.muli v185 c1_i32_173
  let v187 : BitVec 32 := Scalar.addi c0_i32_174 v186
  v187.toNat
def k0_dev42 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_177 : BitVec 32 := 11#32
  let v194 : BitVec 32 := Scalar.xori v2 c11_i32_177
  let c1_i32_181 : BitVec 32 := 1#32
  let v195 : BitVec 32 := Scalar.muli v194 c1_i32_181
  let v196 : BitVec 32 := Scalar.addi c0_i32_182 v195
  v196.toNat
def k0_dev43 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_185 : BitVec 32 := 12#32
  let v203 : BitVec 32 := Scalar.xori v2 c12_i32_185
  let c1_i32_189 : BitVec 32 := 1#32
  let v204 : BitVec 32 := Scalar.muli v203 c1_i32_189
  let v205 : BitVec 32 := Scalar.addi c0_i32_190 v204
  v205.toNat
def k0_dev44 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_193 : BitVec 32 := 13#32
  let v212 : BitVec 32 := Scalar.xori v2 c13_i32_193
  let c1_i32_197 : BitVec 32 := 1#32
  let v213 : BitVec 32 := Scalar.muli v212 c1_i32_197
  let v214 : BitVec 32 := Scalar.addi c0_i32_198 v213
  v214.toNat
def k0_dev45 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_201 : BitVec 32 := 14#32
  let v221 : BitVec 32 := Scalar.xori v2 c14_i32_201
  let c1_i32_205 : BitVec 32 := 1#32
  let v222 : BitVec 32 := Scalar.muli v221 c1_i32_205
  let v223 : BitVec 32 := Scalar.addi c0_i32_206 v222
  v223.toNat
def k0_dev46 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_209 : BitVec 32 := 15#32
  let v230 : BitVec 32 := Scalar.xori v2 c15_i32_209
  let c1_i32_213 : BitVec 32 := 1#32
  let v231 : BitVec 32 := Scalar.muli v230 c1_i32_213
  let v232 : BitVec 32 := Scalar.addi c0_i32_214 v231
  v232.toNat
def k0_dev47 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_217 : BitVec 32 := 16#32
  let v239 : BitVec 32 := Scalar.xori v2 c16_i32_217
  let c1_i32_221 : BitVec 32 := 1#32
  let v240 : BitVec 32 := Scalar.muli v239 c1_i32_221
  let v241 : BitVec 32 := Scalar.addi c0_i32_222 v240
  v241.toNat
def k0_dev48 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_225 : BitVec 32 := 17#32
  let v248 : BitVec 32 := Scalar.xori v2 c17_i32_225
  let c1_i32_229 : BitVec 32 := 1#32
  let v249 : BitVec 32 := Scalar.muli v248 c1_i32_229
  let v250 : BitVec 32 := Scalar.addi c0_i32_230 v249
  v250.toNat
def k0_dev49 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_233 : BitVec 32 := 18#32
  let v257 : BitVec 32 := Scalar.xori v2 c18_i32_233
  let c1_i32_237 : BitVec 32 := 1#32
  let v258 : BitVec 32 := Scalar.muli v257 c1_i32_237
  let v259 : BitVec 32 := Scalar.addi c0_i32_238 v258
  v259.toNat
def k0_dev50 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_241 : BitVec 32 := 19#32
  let v266 : BitVec 32 := Scalar.xori v2 c19_i32_241
  let c1_i32_245 : BitVec 32 := 1#32
  let v267 : BitVec 32 := Scalar.muli v266 c1_i32_245
  let v268 : BitVec 32 := Scalar.addi c0_i32_246 v267
  v268.toNat
def k0_dev51 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_249 : BitVec 32 := 20#32
  let v275 : BitVec 32 := Scalar.xori v2 c20_i32_249
  let c1_i32_253 : BitVec 32 := 1#32
  let v276 : BitVec 32 := Scalar.muli v275 c1_i32_253
  let v277 : BitVec 32 := Scalar.addi c0_i32_254 v276
  v277.toNat
def k0_dev52 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_257 : BitVec 32 := 21#32
  let v284 : BitVec 32 := Scalar.xori v2 c21_i32_257
  let c1_i32_261 : BitVec 32 := 1#32
  let v285 : BitVec 32 := Scalar.muli v284 c1_i32_261
  let v286 : BitVec 32 := Scalar.addi c0_i32_262 v285
  v286.toNat
def k0_dev53 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_265 : BitVec 32 := 22#32
  let v293 : BitVec 32 := Scalar.xori v2 c22_i32_265
  let c1_i32_269 : BitVec 32 := 1#32
  let v294 : BitVec 32 := Scalar.muli v293 c1_i32_269
  let v295 : BitVec 32 := Scalar.addi c0_i32_270 v294
  v295.toNat
def k0_dev54 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_273 : BitVec 32 := 23#32
  let v302 : BitVec 32 := Scalar.xori v2 c23_i32_273
  let c1_i32_277 : BitVec 32 := 1#32
  let v303 : BitVec 32 := Scalar.muli v302 c1_i32_277
  let v304 : BitVec 32 := Scalar.addi c0_i32_278 v303
  v304.toNat
def k0_dev55 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_281 : BitVec 32 := 24#32
  let v311 : BitVec 32 := Scalar.xori v2 c24_i32_281
  let c1_i32_285 : BitVec 32 := 1#32
  let v312 : BitVec 32 := Scalar.muli v311 c1_i32_285
  let v313 : BitVec 32 := Scalar.addi c0_i32_286 v312
  v313.toNat
def k0_dev56 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_289 : BitVec 32 := 25#32
  let v320 : BitVec 32 := Scalar.xori v2 c25_i32_289
  let c1_i32_293 : BitVec 32 := 1#32
  let v321 : BitVec 32 := Scalar.muli v320 c1_i32_293
  let v322 : BitVec 32 := Scalar.addi c0_i32_294 v321
  v322.toNat
def k0_dev57 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_297 : BitVec 32 := 26#32
  let v329 : BitVec 32 := Scalar.xori v2 c26_i32_297
  let c1_i32_301 : BitVec 32 := 1#32
  let v330 : BitVec 32 := Scalar.muli v329 c1_i32_301
  let v331 : BitVec 32 := Scalar.addi c0_i32_302 v330
  v331.toNat
def k0_dev58 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_305 : BitVec 32 := 27#32
  let v338 : BitVec 32 := Scalar.xori v2 c27_i32_305
  let c1_i32_309 : BitVec 32 := 1#32
  let v339 : BitVec 32 := Scalar.muli v338 c1_i32_309
  let v340 : BitVec 32 := Scalar.addi c0_i32_310 v339
  v340.toNat
def k0_dev59 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_313 : BitVec 32 := 28#32
  let v347 : BitVec 32 := Scalar.xori v2 c28_i32_313
  let c1_i32_317 : BitVec 32 := 1#32
  let v348 : BitVec 32 := Scalar.muli v347 c1_i32_317
  let v349 : BitVec 32 := Scalar.addi c0_i32_318 v348
  v349.toNat
def k0_dev60 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_321 : BitVec 32 := 29#32
  let v356 : BitVec 32 := Scalar.xori v2 c29_i32_321
  let c1_i32_325 : BitVec 32 := 1#32
  let v357 : BitVec 32 := Scalar.muli v356 c1_i32_325
  let v358 : BitVec 32 := Scalar.addi c0_i32_326 v357
  v358.toNat
def k0_dev61 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_329 : BitVec 32 := 30#32
  let v365 : BitVec 32 := Scalar.xori v2 c30_i32_329
  let c1_i32_333 : BitVec 32 := 1#32
  let v366 : BitVec 32 := Scalar.muli v365 c1_i32_333
  let v367 : BitVec 32 := Scalar.addi c0_i32_334 v366
  v367.toNat
def k0_dev62 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_337 : BitVec 32 := 31#32
  let v374 : BitVec 32 := Scalar.xori v2 c31_i32_337
  let c1_i32_341 : BitVec 32 := 1#32
  let v375 : BitVec 32 := Scalar.muli v374 c1_i32_341
  let v376 : BitVec 32 := Scalar.addi c0_i32_342 v375
  v376.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S_, .bf16⟩
  | .hbm, ⟨2, _⟩ => ⟨S1024, .bf16⟩
  | .hbm, ⟨3, _⟩ => ⟨S1x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Program.lean ====
/- The kernel's body, printed as one long list of operations, written as three loops over the
   thirty-one peers. Operation number `j` of a loop (counted from 0) concerns the peer whose number
   differs from the device's by an exclusive or with `j + 1`, and slot `j` of the receive buffer. -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Gather

open Idealize.ShloMosaic Idealize.SL.Sem Cert.KernelIdeal Cert.KernelIdeal.Gen

variable {F : FTy → Type} [FloatOps F]

/-- The programs of the body. -/
abbrev Code (F : FTy → Type) := Prog (TpuEff nD τ sig (Elt F) Λ₀ .tc) PUnit

/-- The operation `f j` for each `j` of a list, in the list's order. -/
def each (f : Fin 31 → Code F) : List (Fin 31) → Code F
  | [] => pure ⟨⟩
  | j :: js => f j >>= fun _ => each f js

/-- The thirty-one places, in order. -/
def places : List (Fin 31) :=
  [0, 1, 2, 3, 4, 5, 6, 7, 8, 9, 10, 11, 12, 13, 14, 15, 16, 17, 18, 19, 20, 21, 22, 23, 24, 25, 26, 27, 28, 29, 30]

/-- The number of the peer at place `j`, as the kernel computes it. -/
def peerNum (d0 : Dev nD) (j : Fin 31) : Nat :=
  (Scalar.addi 0#32 (Scalar.muli (Scalar.xori (Scalar.remsi (Scalar.divsi (Dev.word d0) 1#32) 32#32)
    (BitVec.ofNat 32 (j.val + 1))) 1#32)).toNat

/-- It is a device's. -/
theorem peerNum_lt : ∀ (d0 : Dev nD) (j : Fin 31), peerNum d0 j < nD := by decide +kernel

/-- The peer at place `j`. -/
def peer (d0 : Dev nD) (j : Fin 31) : Dev nD := ⟨peerNum d0 j, peerNum_lt d0 j⟩

/-- Being the peer at a place is mutual. -/
theorem peer_peer : ∀ (d0 : Dev nD) (j : Fin 31), peer (peer d0 j) j = d0 := by decide +kernel

/-- A place's semaphore lies in the array of thirty-one. -/
theorem sem_inb (j : Fin 31) : ∀ a, (![j.val] : Fin 1 → Nat) a + S1.size a ≤ S31.size a := by
  revert j; decide

/-- A place's slot lies in the receive buffer. -/
theorem slot_inb (j : Fin 31) : ∀ a, (![j.val, 0, 0] : Fin 3 → Nat) a + S1x1x1024.size a ≤ S31x1x1024.size a := by
  revert j; decide

/-- A place's slot is made of whole words. -/
theorem slot_words (j : Fin 31) :
    (Rect.unit (s := S31x1x1024) ![j.val, 0, 0] S1x1x1024.size (slot_inb j)).WholeWords (EltTy.packing .bf16) := by
  revert j; decide

/-- The semaphore at place `j` of an array. -/
abbrev semAt (a : DmaSems sig S31) (j : Fin 31) : DmaSems sig S_ :=
  (a.slice (Rect.unit (s := S31) ![j.val] S1.size (sem_inb j))).squeeze S_ squeezes_S1_S_

/-- Slot `j` of the receive buffer. -/
abbrev slotAt (r : Memref sig .tc .vmem S31x1x1024 .bf16) (j : Fin 31) : Memref sig .tc .vmem S1x1024 .bf16 :=
  (r.slice (Rect.unit (s := S31x1x1024) ![j.val, 0, 0] S1x1x1024.size (slot_inb j)) (fun _ => rfl)).squeeze S1x1024
    squeezes_S1x1x1024_S1x1024

section
variable (arg0 : Memref sig .tc .vmem S2048x1024 .bf16) (harg0 : arg0.IsWhole) (arg1 : Memref sig .tc .vmem S1x1024 .bf16)
  (harg1 : arg1.IsWhole) (arg2 : Memref sig .tc .vmem S1x1024 .bf16) (harg2 : arg2.IsWhole)
  (arg3 : Memref sig .tc .vmem S31x1x1024 .bf16) (harg3 : arg3.IsWhole) (arg4 arg5 : DmaSems sig S31)

/-- One signal to the barrier semaphore of the peer at place `j`. -/
def tellPeer (d0 : Dev nD) (j : Fin 31) : Code F :=
  semSignalWord (peer d0 j) (SemArray.scalar (sig.barrier 0 rfl) : Sems sig S_).sem 1#32

/-- Start the copy of the send buffer into slot `j` of the peer at place `j`. -/
def sendTo (d0 : Dev nD) (j : Fin 31) : Code F :=
  Prog.lift (.enqueueDma arg2 (.remote (Dev.tc (peer d0 j)) (slotAt arg3 j) (.dma (semAt arg4 j).sem)) (.dma (semAt arg5 j).sem)
    harg2.wordExact ((harg3.wordExact_slice rfl _ (slot_words j)).reshape _ _) ⟨⟨rfl, Or.inl rfl⟩, trivial⟩)

/-- Wait for the copy sent from place `j`, then for the one received there. -/
def waitBoth (j : Fin 31) : Code F := do
  Prog.lift (.waitDma2 (semAt arg4 j).sem (slotAt arg3 j) arg2 ((harg3.wordExact_slice rfl _ (slot_words j)).reshape _ _) harg2.wordExact)
  Prog.lift (.waitDma2 (semAt arg5 j).sem arg2 (slotAt arg3 j) harg2.wordExact ((harg3.wordExact_slice rfl _ (slot_words j)).reshape _ _))

/-- The last stretch: the received rows are read and the result stored. -/
def finish (v100 : FVec F S1x1024 .bf16) : Code F := do
  let v693 : Vec F S31x1x1024 .bf16 ← Prog.lift (.load arg3 (Rect.unit (s := S31x1x1024) ![0, 0, 0] S31x1x1024.size inb_S31x1x1024_S31x1x1024_0_0_0).toLoadRect (View.loadsAt_vmem h_S31x1x1024))
  let _v697 : Vec F S1x1024 .bf16 ← Prog.lift (.load arg1 (Rect.unit (s := S1x1024) ![0, 0] S1x1024.size inb_S1x1024_S1x1024_0_0).toLoadRect (View.loadsAt_vmem h_S1x1024))
  Prog.lift (.store arg1 (Rect.unit (s := S1x1024) ![0, 0] S1x1024.size inb_S1x1024_S1x1024_0_0) (k0_pay1 v100 v693) Finset.univ (View.stores_vmem h_S1x1024 (harg1.storeExact_slice rfl _ packedbf16_S1x1024_S1x1024_0_0) (fun _ => rfl)) (.inl rfl))

/-- The middle stretch: the device's own maximum is put into the send buffer, and the barrier waited for. -/
def prepare : Prog (TpuEff nD τ sig (Elt F) Λ₀ .tc) (FVec F S1x1024 .bf16) := do
  let v97 : Vec F S2048x1024 .bf16 ← Prog.lift (.load arg0 (Rect.unit (s := S2048x1024) ![0, 0] S2048x1024.size inb_S2048x1024_S2048x1024_0_0).toLoadRect (View.loadsAt_vmem h_S2048x1024))
  let _v101 : Vec F S1x1024 .bf16 ← Prog.lift (.load arg2 (Rect.unit (s := S1x1024) ![0, 0] S1x1024.size inb_S1x1024_S1x1024_0_0).toLoadRect (View.loadsAt_vmem h_S1x1024))
  Prog.lift (.store arg2 (Rect.unit (s := S1x1024) ![0, 0] S1x1024.size inb_S1x1024_S1x1024_0_0) (k0_pay3 v97) Finset.univ (View.stores_vmem h_S1x1024 (harg2.storeExact_slice rfl _ packedbf16_S1x1024_S1x1024_0_0) (fun _ => rfl)) (.inl rfl))
  semWaitWord (SemArray.scalar (sig.barrier 0 rfl) : Sems sig S_).sem 31#32
  pure (k0_pay2 v97)

/-- The body as its loops. -/
def looped : Code F := do
  let d0 : Dev nD ← Prog.lift .deviceId
  each (tellPeer d0) places
  let v100 : FVec F S1x1024 .bf16 ← prepare arg0 arg2 harg2
  each (sendTo arg2 harg2 arg3 harg3 arg4 arg5 d0) places
  each (waitBoth arg2 harg2 arg3 harg3 arg4 arg5) places
  finish arg1 harg1 arg3 v100

set_option maxRecDepth 65536 in
/-- The printed body is its loops, unrolled. -/
theorem body_eq_looped : cc0_body (F := F) arg0 harg0 arg1 harg1 arg2 harg2 arg3 harg3 arg4 arg5
    = looped arg0 arg1 harg1 arg2 harg2 arg3 harg3 arg4 arg5 := by
  chain_rfl

end

end Cert.KernelIdeal.Gather

end
-- ==== Proof.KernelIdeal.Protocol.lean ====
/- What the devices hand one another, and when. Each device has 63 semaphores in play: its barrier
   semaphore, one semaphore per place for the copies it sends, one per place for the copies it receives.
   Each is used for one round only. -/
module

public import proofs.«01_k».proof.Proof.KernelIdeal.Program
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pipeline.ValueKit.Geometry
public import Idealize.ShloMosaic.Lib.ShareLeaves
public import Idealize.ShloMosaic.Lib.ValueIdxCore
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state's algebra -/

/-- The exchange's own part: rounds whose duties are named by places. -/
abbrev UB : Type := URounds (GSem nD τ sig) (Fin 31)
/-- The pipeline's part beside it. -/
abbrev UU : Type := UR sig nD τ × UB

local notation "𝕄" => MT nD τ sig Unit (Elt F) ℕ UU ℕ

/-- Where the pipeline's part sits. -/
abbrev EP : Emb (UR sig nD τ) (MT nD τ sig Unit (Elt F) ℕ UU ℕ) := embL
/-- Where the exchange's part sits. -/
abbrev ER : Emb UB (MT nD τ sig Unit (Elt F) ℕ UU ℕ) := embR

variable (m : (ℓ : Loc nD τ sig) → Buf (Elt F) ℓ) (ρ : Dev nD → PrngReg)

/-- The state at launch: any contents, every semaphore at zero. -/
def s₀ : MemSt nD τ sig (Elt F) := ⟨m, fun _ => 0, ρ⟩

/-! ## Buffers and semaphores -/

/-- The staged block of the argument. -/
abbrev xM : Memref sig .tc .vmem S2048x1024 .bf16 := Memref.whole cc0_stg0_0
/-- The staged result. -/
abbrev oM : Memref sig .tc .vmem S1x1024 .bf16 := Memref.whole cc0_stg1_0
/-- The send buffer. -/
abbrev sM : Memref sig .tc .vmem S1x1024 .bf16 := Memref.whole cc0_scratch0
/-- The receive buffer. -/
abbrev rM : Memref sig .tc .vmem S31x1x1024 .bf16 := Memref.whole cc0_scratch1

/-- The names of a device's semaphores: the barrier's, the send one of each place, the receive one of each place. -/
abbrev Spot : Type := Unit ⊕ (Fin 31 ⊕ Fin 31)

/-- The barrier semaphore. -/
abbrev barS : Sem sig := (SemArray.scalar (sig.barrier 0 rfl) : Sems sig S_).sem

/-- The semaphores declared by the kernel itself. -/
def osem : Fin 31 ⊕ Fin 31 → SemLoc sig
  | .inl j => .dma (semAt cc0_scratch2 j).sem
  | .inr j => .dma (semAt cc0_scratch3 j).sem

/-- All of them. -/
def csem : Spot → SemLoc sig
  | .inl _ => .reg barS
  | .inr k => osem k

/-- Different names are different semaphores. -/
theorem csem_injective : Function.Injective csem := by decide +kernel

/-- The name a semaphore has, if it is one of these. -/
def spotOf : SemLoc sig → Option Spot := Function.partialInv csem

/-- A named semaphore's name. -/
theorem spotOf_csem (s : Spot) : spotOf (csem s) = some s := Function.partialInv_left csem_injective s

/-- A semaphore that has a name is the one of that name. -/
theorem csem_of_spotOf {q : SemLoc sig} {s : Spot} (h : spotOf q = some s) : q = csem s :=
  ((Function.partialInv_of_injective csem_injective _ _).mp h).symm

/-- The semaphore of a name on a device. -/
abbrev kcell (cs : Dev nD × Spot) : GSem nD τ sig := ((cs.1 : Thread nD τ), csem cs.2)
/-- A device's barrier semaphore. -/
abbrev barCell (c : Dev nD) : GSem nD τ sig := ((c : Thread nD τ), .reg barS)
/-- A device's send semaphore at a place. -/
abbrev sendCell (j : Fin 31) (c : Dev nD) : GSem nD τ sig := ((c : Thread nD τ), .dma (semAt cc0_scratch2 j).sem)
/-- A device's receive semaphore at a place. -/
abbrev recvCell (j : Fin 31) (c : Dev nD) : GSem nD τ sig := ((c : Thread nD τ), .dma (semAt cc0_scratch3 j).sem)

/-- Different devices or names, different semaphores. -/
theorem kcell_injective : Function.Injective (kcell : Dev nD × Spot → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one copied row. -/
abbrev N : ℕ := (sM : Memref sig .tc .vmem S1x1024 .bf16).view.dmaCredit
/-- It is not zero. -/
theorem N_pos : 0 < N := View.dmaCredit_pos _ (by decide)
/-- A slot's credit is a row's. -/
theorem slot_amount (j : Fin 31) (q : DmaSem sig) : (slotAt rM j).view.amount (.dma q) = N := rfl

/-! ## Contents -/

/-- A device's staged block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The row a device sends. -/
def sent (c : Dev nD) : FVec F S1x1024 .bf16 := k0_pay3 (xstg m ρ c)

/-- Rows one above the other, one per place. -/
def stack (f : Fin 31 → FVec F S1x1024 .bf16) : FVec F S31x1x1024 .bf16 :=
  fun i => f ⟨(i 0).val, (i 0).isLt⟩ (ValueIdx.ix2 ⟨0, Nat.one_pos⟩ ⟨(i 2).val, (i 2).isLt⟩)

/-- What a device's receive buffer ends with: at each place the row of the peer there. -/
def landed (c : Dev nD) : FVec F S31x1x1024 .bf16 := stack fun j => sent m ρ (peer c j)

/-- What a device's result ends with. -/
def outAt (c : Dev nD) : FVec F S1x1024 .bf16 := k0_pay1 (k0_pay2 (xstg m ρ c)) (landed m ρ c)

omit [FloatOps F] in
/-- A slot of stacked rows holds the row of its place. -/
theorem read_stack (f : Fin 31 → FVec F S1x1024 .bf16) (j : Fin 31) :
    (slotAt rM j).view.read (Elt F) (stack f) = f j := by
  funext x
  have e : (Shape.reshapeEquiv (s := ⟨3, ![1, 1, 1024]⟩) (s' := ⟨2, ![1, 1024]⟩) (squeezes_S1x1x1024_S1x1024).numel_eq x)
      = (Fin.cons ⟨0, Nat.one_pos⟩ x : (a : Fin 3) → Fin (![1, 1, 1024] a)) := Shape.reshapeEquiv_cons_one _ x
  show stack f ((Rect.unit (s := S31x1x1024) ![j.val, 0, 0] S1x1x1024.size (slot_inb j)).emb
    (Shape.reshapeEquiv (s := ⟨3, ![1, 1, 1024]⟩) (s' := ⟨2, ![1, 1024]⟩) (squeezes_S1x1x1024_S1x1024).numel_eq x)) = _
  rw [e]
  unfold stack
  have h1 : (x 0).val = 0 := by have := (x 0).isLt; exact Nat.lt_one_iff.mp this
  refine congr (congrArg f (Fin.ext ?_)) (funext fun a => ?_)
  · show j.val + 0 * 1 = j.val
    omega
  · match a with
    | ⟨0, _⟩ => exact Fin.ext h1.symm
    | ⟨1, _⟩ => exact Fin.ext ((ValueKit.rect_emb_unit_val _ _ _ _ _).trans (Nat.zero_add _))

/-- Contents that a view reads as `w` are, under the view, what writing `w` through it leaves. -/
theorem write_eq_of_read {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  rw [View.write_emb_of_mem _ _ (Finset.mem_univ _), ← h, View.read_apply, cast_cast, cast_eq]

/-! ## What is handed over -/

/-- Slot `j` of a device's receive buffer, whole, at contents that need to be named on the slot only. -/
def slotPts (j : Fin 31) (c : Dev nD) (f : FVec F S31x1x1024 .bf16) : sProp 𝕄 :=
  (slotAt rM j).view.loc (c : Thread nD τ) ↦[(slotAt rM j).view.set]{fullShare} f

/-- The share of the send buffer that the copy from place `j` takes along. -/
def part (j : Fin 31) : PosShare TreeShare := ShareLeaves.leaf 5 fullShare (Fin.castSucc j : Fin (31 + 1))
/-- The share that stays behind. -/
def keep : PosShare TreeShare := ShareLeaves.leaf 5 fullShare (Fin.last 31 : Fin (31 + 1))

/-- The send buffer of a device at a share, holding the row it sends. -/
def sendPts (q : PosShare TreeShare) (c : Dev nD) : sProp 𝕄 :=
  sM.view.loc (c : Thread nD τ) ↦[sM.view.set]{q} sent m ρ c

omit [FloatOps F] in
/-- A slot may be kept as a payload. -/
instance slotPts_storable (j : Fin 31) (c : Dev nD) (f : FVec F S31x1x1024 .bf16) :
    BI.Storable (upEmb : UEmb _ 𝕄) (slotPts j c f) := by unfold slotPts; infer_instance
/-- So may a share of the send buffer. -/
instance sendPts_storable (q : PosShare TreeShare) (c : Dev nD) : BI.Storable (upEmb : UEmb _ 𝕄) (sendPts m ρ q c) := by
  unfold sendPts; infer_instance

/-- The elements of slot `j`. -/
def slotSet (j : Fin 31) : Finset S31x1x1024.Idx :=
  (Rect.unit (s := S31x1x1024) ![j.val, 0, 0] S1x1x1024.size (slot_inb j)).set

/-- They are those under the slot's view. -/
theorem slot_set (j : Fin 31) : (slotAt rM j).view.set = slotSet j :=
  (Memref.set_view_squeeze _ _).trans (View.set_slice_whole cc0_scratch1 _)

/-- Different slots share no element. -/
theorem slots_disjoint (j j' : Fin 31) (h : j ≠ j') : Disjoint (slotSet j) (slotSet j') :=
  Ring.lead_disjoint (s := S31x1x1024) (0 : Fin 3) 1 (fun j : Fin 31 => ![j.val, 0, 0]) S1x1x1024.size slot_inb
    (fun b => (Nat.one_mul _).symm) rfl j j' h

/-- Every element is in a slot. -/
theorem slots_cover (i : S31x1x1024.Idx) : ∃ j, i ∈ slotSet j := by
  have h := Ring.lead_cover (s := S31x1x1024) (0 : Fin 3) 1 (fun j : Fin 31 => ![j.val, 0, 0]) S1x1x1024.size slot_inb
    (fun b => (Nat.one_mul _).symm) (fun b a h => by fin_cases a <;> first | exact absurd rfl h | rfl) rfl
    (fun a h => by fin_cases a <;> first | exact absurd rfl h | rfl) rfl
  obtain ⟨j, -, hj⟩ := Finset.mem_biUnion.mp (h ▸ Finset.mem_univ i)
  exact ⟨j, hj⟩

omit [FloatOps F] in
/-- The receive buffer whole is its slots. -/
theorem slots_eq (c : Dev nD) (f : FVec F S31x1x1024 .bf16) :
    (((c : Thread nD τ).loc cc0_scratch1) ↦{fullShare} (f : Buf (Elt F) ((c : Thread nD τ).loc cc0_scratch1)) : sProp 𝕄)
      = bigSep Finset.univ fun j => slotPts j c f := by
  have hc : (Finset.univ : Finset (Fin 31)).biUnion (fun j => (slotSet j : Finset (Idx ((c : Thread nD τ).loc cc0_scratch1)))) = Finset.univ :=
    Finset.eq_univ_iff_forall.mpr fun i => (slots_cover i).elim fun j hj => Finset.mem_biUnion.mpr ⟨j, Finset.mem_univ j, hj⟩
  have hd : ∀ j j' : Fin 31, j ≠ j' → Disjoint (slotSet j : Finset (Idx ((c : Thread nD τ).loc cc0_scratch1))) (slotSet j') := slots_disjoint
  have h := @Ring.pointsTo_blocks nD τ sig Unit _ (Elt F) ℕ _ UU _ ℕ ((c : Thread nD τ).loc cc0_scratch1) (Fin 31) _ slotSet hd hc fullShare
  refine (h f).trans ?_
  refine bigSep_congr fun j _ => ?_
  unfold slotPts
  rw [slot_set]

omit [FloatOps F] in
/-- A family over `n + 1` numbers is its last member and the family over the first `n`. -/
theorem bigSep_fin_last (n : ℕ) (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]
  rfl

omit [FloatOps F] in
/-- A buffer whole is a share of it per place and the share kept. -/
theorem leaves_eq (ℓ : Loc nD τ sig) (f : Buf (Elt F) ℓ) :
    (ℓ ↦{fullShare} f : sProp 𝕄) = iprop((ℓ ↦{keep} f) ∗ bigSep Finset.univ fun j => ℓ ↦{part j} f) :=
  (ShareLeaves.pointsTo_leaves Finset.univ f 5 fullShare).trans
    (bigSep_fin_last 31 fun i : Fin (31 + 1) => (ℓ ↦{ShareLeaves.leaf 5 fullShare i} f : sProp 𝕄))

/-- The send buffer whole is a part per place and the part kept. -/
theorem parts_eq (c : Dev nD) :
    (((c : Thread nD τ).loc cc0_scratch0) ↦{fullShare} (sent m ρ c : Buf (Elt F) ((c : Thread nD τ).loc cc0_scratch0)) : sProp 𝕄)
      = iprop(sendPts m ρ keep c ∗ bigSep Finset.univ fun j => sendPts m ρ (part j) c) := by
  unfold sendPts
  rw [View.set_whole]
  exact leaves_eq _ _

/-! ## The schedule -/

/-- Who pays in the one round of a semaphore: every place for the barrier, the place itself for a copy. -/
def dutiesOf : Option Spot → Finset (Fin 31)
  | some (.inl _) => Finset.univ
  | some (.inr (.inl j)) => {j}
  | some (.inr (.inr j)) => {j}
  | none => ∅

/-- How much each payer pays. -/
def amountOf : Option Spot → ℕ
  | some (.inl _) => 1
  | _ => N

/-- What comes with a payment to device `c`: with a barrier signal from place `d`, the slot there of the peer's receive
    buffer; with a finished send, the part of the send buffer; with a received copy, the slot filled. -/
def payOf (c : Dev nD) (d : Fin 31) : Option Spot → sProp 𝕄
  | some (.inl _) => iprop(∃ f, slotPts d (peer c d) f)
  | some (.inr (.inl j)) => sendPts m ρ (part j) c
  | some (.inr (.inr j)) => slotPts j c (landed m ρ c)
  | none => iprop(emp)

/-- The rounds of every semaphore: only round 0 has anything. -/
def rd : Rounds.Schedule (GSem nD τ sig) (Fin 31) 𝕄 where
  duties g r := if r = 0 ∧ g.1.2 = .tc then dutiesOf (spotOf g.2) else ∅
  unitless _ := False
  amount g _ _ := amountOf (spotOf g.2)
  payload g _ d := payOf m ρ g.1.1 d (spotOf g.2)
  amount_pos g _ _ _ := by
    rcases spotOf g.2 with _ | _ | _
    · exact N_pos
    · exact Nat.one_pos
    · exact N_pos

/-- Every payload of the protocol may be kept. -/
instance rd_payload_storable (g : GSem nD τ sig) (r : ℕ) (d : Fin 31) :
    BI.Storable (upEmb : UEmb _ 𝕄) ((rd m ρ).payload g r d) := by
  show BI.Storable upEmb (payOf m ρ g.1.1 d (spotOf g.2))
  rcases spotOf g.2 with _ | _ | _ | _ <;> unfold payOf <;> infer_instance

/-- Round 0's payers of a named semaphore. -/
theorem duties_at (c : Dev nD) (s : Spot) : (rd m ρ).duties (kcell (c, s)) 0 = dutiesOf (some s) := by
  dsimp only [rd]; rw [spotOf_csem]; exact if_pos ⟨rfl, rfl⟩
/-- A payer named. -/
theorem mem_duties (c : Dev nD) (s : Spot) {j : Fin 31} (h : j ∈ dutiesOf (some s)) : j ∈ (rd m ρ).duties (kcell (c, s)) 0 := by
  rw [duties_at]; exact h
/-- There are none later. -/
theorem duties_later (g : GSem nD τ sig) : ∀ r, 1 ≤ r → (rd m ρ).duties g r = ∅ :=
  fun r hr => by dsimp only [rd]; exact if_neg fun h => by omega
/-- What each pays. -/
theorem amount_at (c : Dev nD) (s : Spot) (d : Fin 31) : (rd m ρ).amount (kcell (c, s)) 0 d = amountOf (some s) := by
  dsimp only [rd]; rw [spotOf_csem]
/-- What comes with it. -/
theorem payload_at (c : Dev nD) (s : Spot) (d : Fin 31) : (rd m ρ).payload (kcell (c, s)) 0 d = payOf m ρ c d (some s) := by
  dsimp only [rd]; rw [spotOf_csem]

/-- What comes with a barrier signal. -/
theorem payload_bar (c : Dev nD) (d : Fin 31) : (rd m ρ).payload (barCell c) 0 d = iprop(∃ f, slotPts d (peer c d) f) :=
  payload_at m ρ c (.inl ()) d
/-- What comes with a finished send. -/
theorem payload_send (c : Dev nD) (j d : Fin 31) : (rd m ρ).payload (sendCell j c) 0 d = sendPts m ρ (part j) c :=
  payload_at m ρ c (.inr (.inl j)) d
/-- What comes with a received copy. -/
theorem payload_recv (c : Dev nD) (j d : Fin 31) : (rd m ρ).payload (recvCell j c) 0 d = slotPts j c (landed m ρ c) :=
  payload_at m ρ c (.inr (.inr j)) d

/-- The barrier is waited for with the count of the places. -/
theorem expect_bar (c : Dev nD) : (rd m ρ).expect (barCell c) 0 = 31 := by
  show (rd m ρ).expect (kcell (c, .inl ())) 0 = 31
  unfold Schedule.expect Schedule.amountOf
  rw [duties_at, Finset.sum_congr rfl fun d _ => amount_at m ρ c (.inl ()) d]
  simp [dutiesOf, amountOf]
/-- A copy's semaphore, on either end, is waited for with the row's credit. -/
theorem expect_copy (c : Dev nD) (k : Fin 31 ⊕ Fin 31) : (rd m ρ).expect (kcell (c, .inr k)) 0 = N := by
  unfold Schedule.expect Schedule.amountOf
  rw [duties_at, Finset.sum_congr rfl fun d _ => amount_at m ρ c (.inr k) d]
  rcases k with j | j <;> simp [dutiesOf, amountOf]
/-- A send semaphore expects one copy. -/
theorem expect_send (c : Dev nD) (j : Fin 31) : (rd m ρ).expect (sendCell j c) 0 = N := expect_copy m ρ c (.inl j)
/-- A receive semaphore expects one copy. -/
theorem expect_recv (c : Dev nD) (j : Fin 31) : (rd m ρ).expect (recvCell j c) 0 = N := expect_copy m ρ c (.inr j)

/-- After the barrier a device holds, for each place, the slot there of the peer's receive buffer. -/
theorem rest_bar (c : Dev nD) :
    bigSep ((rd m ρ).duties (barCell c) 0 \ ∅) (fun d => (rd m ρ).payload (barCell c) 0 d)
      = bigSep Finset.univ fun j => iprop(∃ f, slotPts j (peer c j) f) := by
  rw [Finset.sdiff_empty, show (rd m ρ).duties (barCell c) 0 = Finset.univ from duties_at m ρ c (.inl ())]
  exact bigSep_congr fun d _ => payload_bar m ρ c d
/-- After a send is waited for, its part of the send buffer is back. -/
theorem rest_send (c : Dev nD) (j : Fin 31) :
    bigSep ((rd m ρ).duties (sendCell j c) 0 \ ∅) (fun d => (rd m ρ).payload (sendCell j c) 0 d) = sendPts m ρ (part j) c := by
  rw [Finset.sdiff_empty, show (rd m ρ).duties (sendCell j c) 0 = {j} from duties_at m ρ c (.inr (.inl j)), bigSep_singleton, payload_send]
/-- After a receive is waited for, the slot is filled. -/
theorem rest_recv (c : Dev nD) (j : Fin 31) :
    bigSep ((rd m ρ).duties (recvCell j c) 0 \ ∅) (fun d => (rd m ρ).payload (recvCell j c) 0 d) = slotPts j c (landed m ρ c) := by
  rw [Finset.sdiff_empty, show (rd m ρ).duties (recvCell j c) 0 = {j} from duties_at m ρ c (.inr (.inr j)), bigSep_singleton, payload_recv]

/-! ## What a device owes at launch, and the order of waiting -/

/-- The copies still owed to the peers at the places of `T`. -/
def due (T : Finset (Fin 31)) (c : Dev nD) : CellTallies nD τ sig Unit := ∑ j ∈ T, tallyAt (recvCell j (peer c j)) () N
/-- The signals still owed to the peers at the places of `T`. -/
def tell (T : Finset (Fin 31)) (c : Dev nD) : CellTallies nD τ sig Unit := ∑ j ∈ T, tallyAt (barCell (peer c j)) () 1
/-- One copy apart. -/
theorem due_insert {j : Fin 31} {T : Finset (Fin 31)} (hj : j ∉ T) (c : Dev nD) :
    due (insert j T) c = due T c + tallyAt (recvCell j (peer c j)) () N := by
  unfold due; rw [Finset.sum_insert hj, add_comm]
/-- One signal apart. -/
theorem tell_insert {j : Fin 31} {T : Finset (Fin 31)} (hj : j ∉ T) (c : Dev nD) :
    tell (insert j T) c = tell T c + tallyAt (barCell (peer c j)) () 1 := by
  unfold tell; rw [Finset.sum_insert hj, add_comm]
/-- All that is owed at the start. -/
def O₀ (c : Dev nD) : CellTallies nD τ sig Unit := due Finset.univ c + tell Finset.univ c

/-- One index per semaphore of a core that runs the kernel. -/
def L (g : GSem nD τ sig) : Finset Unit := if g.1.2 = .tc then {()} else ∅
/-- The barrier comes before the receives; all else comes first. -/
def rank : Option Spot → ℕ
  | some (.inl _) => 1
  | some (.inr (.inr _)) => 2
  | _ => 0
/-- The level of a semaphore. -/
def lv (g : GSem nD τ sig) (_ : Unit) : ℕ := rank (spotOf g.2)

/-- Only semaphores of the main core have a level. -/
theorem L_of_ne (g : GSem nD τ sig) (h : g.1.2 ≠ .tc) : L g = ∅ := if_neg h
/-- Each of them has exactly one. -/
theorem L_tc (c : Dev nD) (sm : SemLoc sig) : L ((c : Thread nD τ), sm) = {()} := if_pos rfl
/-- The level of a named semaphore is the rank of its name. -/
theorem lv_at (c : Dev nD) (s : Spot) (u : Unit) : lv (kcell (c, s)) u = rank (some s) := by
  dsimp only [lv]; rw [spotOf_csem]

/-- The barrier semaphore has level one. -/
theorem lv_bar (c : Dev nD) (u : Unit) : lv (barCell c) u = 1 := lv_at c (.inl ()) u
/-- A receive semaphore has level two. -/
theorem lv_recv (c : Dev nD) (j : Fin 31) (u : Unit) : lv (recvCell j c) u = 2 := lv_at c (.inr (.inr j)) u

/-- A sum of debts owes only to the semaphores it names. -/
theorem sum_tally_pos (f : Fin 31 → GSem nD τ sig) (n : ℕ) (T : Finset (Fin 31)) {g : GSem nD τ sig} {u : Unit}
    (h : 0 < (∑ j ∈ T, tallyAt (f j) () n : CellTallies nD τ sig Unit) g u) : ∃ j, g = f j := by
  by_contra hn
  rw [Finset.sum_apply, Finsupp.finset_sum_apply, Finset.sum_eq_zero] at h
  · exact Nat.lt_irrefl 0 h
  · intro j _
    rw [tallyAt_apply, if_neg fun h' => hn ⟨j, h'.1⟩]

/-- What is owed of the copies is owed to receive semaphores of peers. -/
theorem due_pos {T : Finset (Fin 31)} {c : Dev nD} {g : GSem nD τ sig} {u : Unit} (h : 0 < due T c g u) :
    ∃ j, g = recvCell j (peer c j) := sum_tally_pos _ _ _ h

/-- What is owed at the start is owed to receive and barrier semaphores. -/
theorem O₀_pos {c : Dev nD} {g : GSem nD τ sig} {u : Unit} (h : 0 < O₀ c g u) :
    (∃ j, g = recvCell j (peer c j)) ∨ ∃ j, g = barCell (peer c j) := by
  unfold O₀ at h
  rw [Pi.add_apply, Finsupp.add_apply] at h
  rcases Nat.eq_zero_or_pos (due Finset.univ c g u) with h0 | h0
  · rw [h0, Nat.zero_add] at h
    exact .inr (sum_tally_pos _ _ _ h)
  · exact .inl (due_pos h0)

omit [FloatOps F] in
/-- A semaphore below the barrier may be waited for at any time. -/
theorem mayWait_stage (c : Dev nD) (q : SemLoc sig) (hq : rank (spotOf q) = 0) (O : CellTallies nD τ sig Unit)
    (hO : O = O₀ c ∨ O = 0) : (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq hq)
      (fun g u hg => by
        rcases O₀_pos hg with ⟨j, rfl⟩ | ⟨j, rfl⟩
        · rw [lv_recv]; decide
        · rw [lv_bar]; decide)
  · rw [MayWait_zero]; iintro -; iempintro

omit [FloatOps F] in
/-- At the barrier only copies are owed, and these come after it. -/
theorem mayWait_bar (c : Dev nD) (T : Finset (Fin 31)) :
    (levAts L lv : sProp 𝕄) ⊢ MayWait (c : Thread nD τ) (.reg barS) () (due T c) :=
  MayOwe.of_cut (L := L) (lev := lv) 1 (fun p hp => by rw [Finset.mem_singleton.mp hp, L_tc]; exact Finset.mem_singleton_self _)
    (fun g u hg => by obtain ⟨j, rfl⟩ := due_pos hg; exact Finset.mem_singleton_self _)
    (fun p hp => by rw [Finset.mem_singleton.mp hp]; exact le_of_eq (lv_bar c ()))
    (fun g u hg => by obtain ⟨j, rfl⟩ := due_pos hg; rw [lv_recv]; decide)

end Cert.KernelIdeal.Gather

end
-- ==== Proof.KernelIdeal.Body.lean ====
/- The kernel's body on one device: each loop by a statement of what is held when the places of a set
   `T` are still to come. -/
module

public import proofs.«01_k».proof.Proof.KernelIdeal.Protocol

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No recursive program is called. -/
abbrev 𝒱₀ : Variants := Variants.none

/-- What every device may use at any time: the invariants of all the semaphores, under the names `K`, and that the
    one round of each has begun. -/
def records (K : Dev nD × Spot → ℕ) : sProp 𝕄 :=
  iprop((bigSep Finset.univ fun cs : Dev nD × Spot => cellInv ER (rd m ρ) (K cs) (kcell cs))
    ∗ bigSep Finset.univ fun cs : Dev nD × Spot => reached ER (kcell cs) 0)

/-- The records may be used any number of times. -/
instance records_persistent (K : Dev nD × Spot → ℕ) : BI.Persistent (records m ρ K) := by unfold records; infer_instance

omit [FloatOps F] in
/-- One member of a family. -/
theorem bigSep_pick (Φ : Dev nD × Spot → sProp 𝕄) (cs : Dev nD × Spot) : bigSep Finset.univ Φ ⊢ Φ cs :=
  bigSep_elim (Finset.mem_univ cs)

/-- The invariant of one semaphore. -/
theorem records_inv (K : Dev nD × Spot → ℕ) (cs : Dev nD × Spot) : records m ρ K ⊢ cellInv ER (rd m ρ) (K cs) (kcell cs) := by
  unfold records
  iintro ⟨H, -⟩
  iapply (bigSep_pick (fun cs : Dev nD × Spot => (cellInv ER (rd m ρ) (K cs) (kcell cs) : sProp 𝕄)) cs)
  iexact H
/-- One semaphore's round has begun. -/
theorem records_reached (K : Dev nD × Spot → ℕ) (cs : Dev nD × Spot) : records m ρ K ⊢ reached ER (kcell cs) 0 := by
  unfold records
  iintro ⟨-, H⟩
  iapply (bigSep_pick (fun cs : Dev nD × Spot => (reached ER (kcell cs) 0 : sProp 𝕄)) cs)
  iexact H

/-- The records hold the invariant of a barrier semaphore. -/
theorem inv_bar (K : Dev nD × Spot → ℕ) (c : Dev nD) : records m ρ K ⊢ cellInv ER (rd m ρ) (K (c, .inl ())) (barCell c) :=
  records_inv m ρ K (c, .inl ())
/-- They hold the invariant of a send semaphore. -/
theorem inv_send (K : Dev nD × Spot → ℕ) (c : Dev nD) (j : Fin 31) :
    records m ρ K ⊢ cellInv ER (rd m ρ) (K (c, .inr (.inl j))) (sendCell j c) := records_inv m ρ K (c, .inr (.inl j))
/-- They hold the invariant of a receive semaphore. -/
theorem inv_recv (K : Dev nD × Spot → ℕ) (c : Dev nD) (j : Fin 31) :
    records m ρ K ⊢ cellInv ER (rd m ρ) (K (c, .inr (.inr j))) (recvCell j c) := records_inv m ρ K (c, .inr (.inr j))
/-- A barrier semaphore has reached its first round. -/
theorem reached_bar (K : Dev nD × Spot → ℕ) (c : Dev nD) : records m ρ K ⊢ reached ER (barCell c) 0 :=
  records_reached m ρ K (c, .inl ())
/-- A send semaphore has reached its first round. -/
theorem reached_send (K : Dev nD × Spot → ℕ) (c : Dev nD) (j : Fin 31) : records m ρ K ⊢ reached ER (sendCell j c) 0 :=
  records_reached m ρ K (c, .inr (.inl j))
/-- A receive semaphore has reached its first round. -/
theorem reached_recv (K : Dev nD × Spot → ℕ) (c : Dev nD) (j : Fin 31) : records m ρ K ⊢ reached ER (recvCell j c) 0 :=
  records_reached m ρ K (c, .inr (.inr j))

omit [FloatOps F] in
/-- A place more. -/
theorem bigSep_push {j : Fin 31} {T : Finset (Fin 31)} (hj : j ∉ T) (Φ : Fin 31 → sProp 𝕄) :
    bigSep (insert j T) Φ = iprop(Φ j ∗ bigSep T Φ) := bigSep_insert hj

omit [FloatOps F] in
/-- A place less to come is a place more behind. -/
theorem bigSep_behind {j : Fin 31} {T : Finset (Fin 31)} (hj : j ∉ T) (Φ : Fin 31 → sProp 𝕄) :
    bigSep Tᶜ Φ = iprop(Φ j ∗ bigSep (insert j T)ᶜ Φ) := by
  have hc : Tᶜ = insert j (insert j T)ᶜ := by
    ext i
    by_cases h : i = j
    · subst h; simp [hj]
    · simp [h]
  rw [hc]
  exact bigSep_push (by simp) Φ

omit [FloatOps F] in
/-- Two families side by side. -/
theorem zip (A B : Fin 31 → sProp 𝕄) : iprop(bigSep Finset.univ A ∗ bigSep Finset.univ B) ⊢ bigSep Finset.univ fun j => iprop(A j ∗ B j) :=
  Entails.of_eq (bigSep_sep' Finset.univ A B).symm
omit [FloatOps F] in
/-- A family of pairs taken apart. -/
theorem unzip (A B : Fin 31 → sProp 𝕄) : (bigSep Finset.univ fun j => iprop(A j ∗ B j)) ⊢ iprop(bigSep Finset.univ A ∗ bigSep Finset.univ B) :=
  Entails.of_eq (bigSep_sep' Finset.univ A B)

section Body

variable (K : Dev nD × Spot → ℕ) (c : Dev nD)

/-- That a program of this device ends in `Q`. -/
abbrev Ends (p : Code F) (Q : PUnit → sProp 𝕄) : sProp 𝕄 := wp frame (wpE (defs₀ (F := F)) 𝒱₀ (c : Thread nD τ) none) Set.univ p Q

/-- A loop: if an operation takes `Inv` without its place still to come, the loop takes `Inv` of all its places to `Inv`
    of none. -/
theorem wp_each {Inv : Finset (Fin 31) → sProp 𝕄} {Q : PUnit → sProp 𝕄} {f : Fin 31 → Code F}
    (step : ∀ j T, j ∉ T → ∀ k : PUnit → Code F, Inv (insert j T) ⊢ iprop((Inv T -∗ Ends c (k ⟨⟩) Q) -∗ Ends c (f j >>= k) Q)) :
    ∀ (js : List (Fin 31)), js.Nodup → ∀ k : PUnit → Code F,
      Inv js.toFinset ⊢ iprop((Inv ∅ -∗ Ends c (k ⟨⟩) Q) -∗ Ends c (each f js >>= k) Q)
  | [], _, k => by
    rw [List.toFinset_nil]
    show Inv ∅ ⊢ iprop((Inv ∅ -∗ Ends c (k ⟨⟩) Q) -∗ Ends c (k ⟨⟩) Q)
    iintro H Hk; iapply Hk; iexact H
  | j :: js, h, k => by
    have hj : j ∉ js.toFinset := fun h' => (List.nodup_cons.mp h).1 (List.mem_toFinset.mp h')
    rw [List.toFinset_cons]
    have e : (each f (j :: js) >>= k) = (f j >>= fun _ => each f js >>= k) := bind_assoc _ _ _
    rw [e]
    iintro H Hk
    iapply (step j js.toFinset hj fun _ => each f js >>= k) $$ H
    iintro H
    iapply (wp_each step js (List.nodup_cons.mp h).2 k) $$ H
    iexact Hk

/-- The places are all there are. -/
theorem places_all : places.toFinset = Finset.univ := by decide
/-- Each comes once. -/
theorem places_nodup : places.Nodup := by decide

/-- A loop over all the places. -/
theorem wp_places {Inv : Finset (Fin 31) → sProp 𝕄} {Q : PUnit → sProp 𝕄} {f : Fin 31 → Code F}
    (step : ∀ j T, j ∉ T → ∀ k : PUnit → Code F, Inv (insert j T) ⊢ iprop((Inv T -∗ Ends c (k ⟨⟩) Q) -∗ Ends c (f j >>= k) Q))
    (k : PUnit → Code F) : Inv Finset.univ ⊢ iprop((Inv ∅ -∗ Ends c (k ⟨⟩) Q) -∗ Ends c (each f places >>= k) Q) :=
  (Entails.of_eq (congrArg Inv places_all.symm)).trans (wp_each c step places places_nodup k)

/-! ## Telling the peers -/

/-- Signals to the places of `T` are still to be given; with each goes the own slot the peer there fills. -/
def TellInv (W : Waits sig Unit) (T : Finset (Fin 31)) : sProp 𝕄 :=
  iprop(records m ρ K ∗ owes (c : Thread nD τ) (due Finset.univ c + tell T c) W
    ∗ bigSep T fun j => iprop(dutyTok ER (barCell (peer c j)) 0 j ∗ ∃ f, slotPts j c f))

/-- The own slot is what the signal hands over. -/
theorem tell_pay (j : Fin 31) : iprop(∃ f, slotPts j c f) ⊢ (rd m ρ).payload (barCell (peer c j)) 0 j := by
  rw [payload_bar, peer_peer]

/-- One signal: the place it is for leaves those still to be signalled. -/
theorem tell_step (W : Waits sig Unit) (Q : PUnit → sProp 𝕄) (j : Fin 31) (T : Finset (Fin 31)) (hj : j ∉ T) (k : PUnit → Code F) :
    TellInv m ρ K c W (insert j T) ⊢ iprop((TellInv m ρ K c W T -∗ Ends c (k ⟨⟩) Q) -∗ Ends c (tellPeer c j >>= k) Q) := by
  simp only [tellPeer, semSignalWord, Prog.lift, Prog.bind_op, Prog.bind_ret]
  unfold TellInv
  rw [bigSep_push hj]
  iintro ⟨#HR, HO, ⟨Ht, Hs⟩, HT⟩ Hk
  iapply (Rounds.wp_signal 𝒱₀ ER (rd m ρ) (c : Thread nD τ) none (dst := (peer c j : Thread nD τ)) (κ := K (peer c j, .inl ()))
      (d := j) (mem_duties m ρ (peer c j) (.inl ()) (Finset.mem_univ _)) ((amount_at m ρ (peer c j) (.inl ()) j).trans (by decide)) ()
      (O₀ := due Finset.univ c + tell (insert j T) c) (due Finset.univ c + tell T c) (by rw [tell_insert hj, add_assoc]; rfl))
    $$ [HO Ht Hs]
  · isplitr; · iapply (inv_bar m ρ K (peer c j)); iexact HR
    isplitl [HO]; · iexact HO
    isplitl [Ht]; · iexact Ht
    isplitl [Hs]
    · iapply (tell_pay m ρ c j); iexact Hs
    · iapply (reached_bar m ρ K (peer c j)); iexact HR
  iintro HO
  iapply Hk
  isplitr; · iexact HR
  isplitl [HO] <;> iassumption

/-! ## Sending -/

/-- Copies to the places of `T` are still to be started; each takes a part of the send buffer and fills the peer's slot. -/
def SendInv (W : Waits sig Unit) (T : Finset (Fin 31)) : sProp 𝕄 :=
  iprop(records m ρ K ∗ owes (c : Thread nD τ) (due T c) W
    ∗ (bigSep T fun j => iprop((dutyTok ER (sendCell j c) 0 j ∗ dutyTok ER (recvCell j (peer c j)) 0 j)
        ∗ sendPts m ρ (part j) c ∗ ∃ f, slotPts j (peer c j) f))
    ∗ bigSep Tᶜ fun j => cred (tallyAt (sendCell j c) () N))

/-- A row copied into a slot is the slot filled. -/
theorem fill (j : Fin 31) (fn : FVec F S31x1x1024 .bf16) :
    ((slotAt rM j).view.loc (peer c j : Thread nD τ) ↦[(slotAt rM j).view.set]{fullShare}
        ((slotAt rM j).view.write (Elt F) fn (sM.view.read (Elt F) (sent m ρ c)) Finset.univ) : sProp 𝕄)
      ⊢ slotPts j (peer c j) (landed m ρ (peer c j)) := by
  have h : (slotAt rM j).view.read (Elt F) (landed m ρ (peer c j)) = sent m ρ c := by
    unfold landed; rw [read_stack, peer_peer]
  unfold slotPts
  refine Entails.of_eq (pointsTo_congr ?_)
  have hr : sM.view.read (Elt F) (sent m ρ c) = sent m ρ c := View.read_whole _ _
  rw [hr]
  exact write_eq_of_read _ _ _ _ h

/-- One copy: a part of the send buffer and the peer's slot go in, the send's credit comes out. -/
theorem wp_copy_row (j : Fin 31) (fn : FVec F S31x1x1024 .bf16) (O : CellTallies nD τ sig Unit) (W : Waits sig Unit) (Q : PUnit → sProp 𝕄) (k : PUnit → Code F) :
    iprop(cellInv ER (rd m ρ) (K (c, .inr (.inl j))) (sendCell j c) ∗ cellInv ER (rd m ρ) (K (peer c j, .inr (.inr j))) (recvCell j (peer c j))
        ∗ sendPts m ρ (part j) c ∗ slotPts j (peer c j) fn
        ∗ owes (c : Thread nD τ) (O + tallyAt (recvCell j (peer c j)) () N) W
        ∗ dutyTok ER (sendCell j c) 0 j ∗ reached ER (sendCell j c) 0
        ∗ dutyTok ER (recvCell j (peer c j)) 0 j ∗ reached ER (recvCell j (peer c j)) 0)
      ⊢ iprop(((cred (tallyAt (sendCell j c) () N) ∗ owes (c : Thread nD τ) O W) -∗ Ends c (k ⟨⟩) Q)
          -∗ Ends c (sendTo sM (Memref.isWhole_whole _) rM (Memref.isWhole_whole _) cc0_scratch2 cc0_scratch3 c j >>= k) Q) := by
  have h1 := fill m ρ c j fn
  have h2 := mem_duties m ρ c (.inr (.inl j)) (Finset.mem_singleton_self j)
  have h3 := mem_duties m ρ (peer c j) (.inr (.inr j)) (Finset.mem_singleton_self j)
  have h4 := amount_at m ρ c (.inr (.inl j)) j
  have h5 := amount_at m ρ (peer c j) (.inr (.inr j)) j
  have h6 := Entails.of_eq (payload_send m ρ c j j).symm
  have h7 := h1.trans (Entails.of_eq (payload_recv m ρ (peer c j) j j).symm)
  unfold slotPts sendPts at *
  exact Rounds.wp_send_pointsTo (defs := defs₀ (F := F)) (Q := Q) (k := k) 𝒱₀ ER (rd m ρ) (c : Thread nD τ) none (κ₁ := K (c, .inr (.inl j))) (κ₂ := K (peer c j, .inr (.inr j)))
    (r₁ := 0) (r₂ := 0) (d₁ := j) (d₂ := j) (src := sM) (dst := slotAt rM j) (c' := (peer c j : Thread nD τ)) (sS := .dma (semAt cc0_scratch2 j).sem) (sem := .dma (semAt cc0_scratch3 j).sem)
    (fd := fn) (fs := sent m ρ c) (Es := Set.univ) h2 h3 () () N rfl h4 h5 O rfl (W := W) h6 h7

/-- One start of a copy: its place leaves those still to be sent to. -/
theorem send_step (W : Waits sig Unit) (Q : PUnit → sProp 𝕄) (j : Fin 31) (T : Finset (Fin 31)) (hj : j ∉ T) (k : PUnit → Code F) :
    SendInv m ρ K c W (insert j T) ⊢ iprop((SendInv m ρ K c W T -∗ Ends c (k ⟨⟩) Q)
      -∗ Ends c (sendTo sM (Memref.isWhole_whole _) rM (Memref.isWhole_whole _) cc0_scratch2 cc0_scratch3 c j >>= k) Q) := by
  unfold SendInv
  rw [bigSep_push hj, bigSep_behind hj, due_insert hj]
  iintro ⟨#HR, HO, ⟨⟨⟨Ht1, Ht2⟩, Hx, ⟨%fn, Hs⟩⟩, HT⟩, HC⟩ Hk
  iapply (wp_copy_row m ρ K c j fn (due T c) W Q k) $$ [Hx Hs HO Ht1 Ht2]
  · isplitr; · iapply (inv_send m ρ K c j); iexact HR
    isplitr; · iapply (inv_recv m ρ K (peer c j) j); iexact HR
    isplitl [Hx]; · iexact Hx
    isplitl [Hs]; · iexact Hs
    isplitl [HO]; · iexact HO
    isplitl [Ht1]; · iexact Ht1
    isplitr; · iapply (reached_send m ρ K c j); iexact HR
    isplitl [Ht2]; · iexact Ht2
    iapply (reached_recv m ρ K (peer c j) j); iexact HR
  iintro ⟨Hc, HO⟩
  iapply Hk
  isplitr; · iexact HR
  isplitl [HO]; · iexact HO
  isplitl [HT]; · iexact HT
  isplitl [Hc] <;> iassumption

/-! ## Waiting -/

/-- The copies of the places of `T`, out and in, are still to be waited for; of the others the parts of the send buffer
    are back, the slots are filled and the semaphores are at zero. -/
def WaitInv (T : Finset (Fin 31)) : sProp 𝕄 :=
  iprop(records m ρ K ∗ (∃ W, owes (c : Thread nD τ) 0 W)
    ∗ (bigSep T fun j => iprop((atPos ER (sendCell j c) 0 ∅ 0 ∗ atPos ER (recvCell j c) 0 ∅ 0)
        ∗ cred (tallyAt (sendCell j c) () N) ∗ cred (tallyAt (recvCell j c) () N)))
    ∗ bigSep Tᶜ fun j => iprop((sendPts m ρ (part j) c ∗ slotPts j c (landed m ρ c))
        ∗ semVal (sendCell j c) 0 ∗ semVal (recvCell j c) 0))

/-- One pair of waits: its place leaves those still waited for, and its share and filled slot come back. -/
theorem wait_step (Q : PUnit → sProp 𝕄) (j : Fin 31) (T : Finset (Fin 31)) (hj : j ∉ T) (k : PUnit → Code F) :
    WaitInv m ρ K c (insert j T) ⊢ iprop((WaitInv m ρ K c T -∗ Ends c (k ⟨⟩) Q)
      -∗ Ends c (waitBoth sM (Memref.isWhole_whole _) rM (Memref.isWhole_whole _) cc0_scratch2 cc0_scratch3 j >>= k) Q) := by
  simp only [waitBoth, Prog.lift, Prog.bind_op, Prog.bind_ret]
  unfold WaitInv
  rw [bigSep_push hj, bigSep_behind hj]
  iintro ⟨#HR, ⟨%W, HO⟩, ⟨⟨⟨HaS, HaR⟩, HcS, HcR⟩, HT⟩, HC⟩ Hk
  ihave #HIS := (inv_send m ρ K c j) $$ HR
  ihave #HIR := (inv_recv m ρ K c j) $$ HR
  iapply (Rounds.wp_wait_rest_token 𝒱₀ ER (rd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send m ρ c j])) $$ [HcS HO HaS]
  · isplitr; · iexact HIS
    isplitl [HcS]; · iexact HcS
    isplitl [HO]; · iexact HO
    isplitr; · rw [MayWait_zero]; iempintro
    iexact HaS
  iintro ⟨HO, HaS, -, Hpay⟩
  ihave Hx := (Entails.of_eq (rest_send m ρ c j)) $$ Hpay
  iapply (Rounds.wp_wait_rest_token 𝒱₀ ER (rd m ρ) (c : Thread nD τ) none (κ := K (c, .inr (.inr j)))
      (wpE_waitDma2_eq 𝒱₀ (c : Thread nD τ) none Set.univ) (Set.mem_univ _) () (O := 0) (R := 0) (m := 0) (T := ∅)
      (by rw [Nat.zero_add, expect_recv m ρ c j])) $$ [HcR HO HaR]
  · isplitr; · iexact HIR
    isplitl [HcR]; · iexact HcR
    isplitl [HO]; · iexact HO
    isplitr; · rw [MayWait_zero]; iempintro
    iexact HaR
  iintro ⟨HO, HaR, -, Hpay⟩
  ihave Hs := (Entails.of_eq (rest_recv m ρ c j)) $$ Hpay
  imod (Rounds.cell_close ER (rd m ρ) (Set.mem_univ (K (c, .inr (.inl j)))) (fun h => h) (R := 0 + 1) (duties_later m ρ (sendCell j c))) $$ [HaS] with HzS
  · isplitr; · iexact HIS
    iexact HaS
  imod (Rounds.cell_close ER (rd m ρ) (Set.mem_univ (K (c, .inr (.inr j)))) (fun h => h) (R := 0 + 1) (duties_later m ρ (recvCell j c))) $$ [HaR] with HzR
  · isplitr; · iexact HIR
    iexact HaR
  iapply Hk
  isplitr; · iexact HR
  isplitl [HO]; · iexists _; iexact HO
  isplitl [HT]; · iexact HT
  isplitr [HC]
  · isplitl [Hx Hs]
    · isplitl [Hx] <;> iassumption
    · isplitl [HzS] <;> iassumption
  iexact HC

/-! ## The whole body -/

/-- The tokens of the payments a device makes: signals to the peers, its sends, the copies into the peers' slots. -/
def payToks : sProp 𝕄 :=
  iprop((bigSep Finset.univ fun j => dutyTok ER (barCell (peer c j)) 0 j)
    ∗ bigSep Finset.univ fun j => iprop(dutyTok ER (sendCell j c) 0 j ∗ dutyTok ER (recvCell j (peer c j)) 0 j))

/-- Its positions at the start of each of its own semaphores' rounds. -/
def spots : sProp 𝕄 :=
  iprop(atPos ER (barCell c) 0 ∅ 0 ∗ bigSep Finset.univ fun j => iprop(atPos ER (sendCell j c) 0 ∅ 0 ∗ atPos ER (recvCell j c) 0 ∅ 0))

/-- The exchange's ghost state a device starts with. -/
def ghost : sProp 𝕄 := iprop(records m ρ K ∗ spots c ∗ payToks c)

/-- The credit it starts with. -/
def purse : sProp 𝕄 :=
  iprop(cred (tallyAt (barCell c) () 31) ∗ bigSep Finset.univ fun j => cred (tallyAt (recvCell j c) () N))

/-- All it starts with but its buffers. -/
def start : sProp 𝕄 := iprop((∃ K, ghost m ρ K c) ∗ purse c ∗ levAts L lv)

/-- Its two own buffers at any contents. -/
def buffers : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Its semaphores at zero. -/
def zeros : sProp 𝕄 :=
  iprop(semVal (barCell c) 0 ∗ bigSep Finset.univ fun j => iprop(semVal (sendCell j c) 0 ∗ semVal (recvCell j c) 0))

/-- Before the body. -/
def Φ₀ : sProp 𝕄 := iprop(start m ρ c ∗ buffers c)
/-- After it. -/
def Φ₁ : sProp 𝕄 := iprop(buffers (F := F) c ∗ zeros c)

/-- The launch's data: the argument staged and unchanged, the result computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The call has one step. -/
theorem cfg0_N : cfg0.N = 1 := by decide
/-- The one point of the grid. -/
def t₀ : Fin cfg0.N := ⟨0, by rw [cfg0_N]; decide⟩
/-- Every step is that step. -/
theorem fin_N (t : Fin cfg0.N) : t = t₀ := by
  obtain ⟨t, ht⟩ := t; have := cfg0_N; exact Fin.ext (by simp only [t₀]; omega)

/-- It fetches the argument. -/
theorem fetch_0 (t : Fin cfg0.N) : (cfg0.win (0 : Fin 2)).fetch t = true := by rw [fin_N t]; rfl

omit [FloatOps F] in
/-- A whole buffer owned at `X` is the buffer holding `X`. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre : sProp 𝕄 :=
  iprop((ghost m ρ K c ∗ purse c ∗ levAts L lv ∗ buffers c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends in. -/
def bodyPost : sProp 𝕄 :=
  iprop(Φ₁ (F := F) c ∗ (dats m ρ 0 c).owesAt () t₀.succ ∗ stg c cc0_stg0_0 (xstg m ρ c) ∗ stg c cc0_stg1_0 (outAt m ρ c))

omit [FloatOps F] in
/-- The offset of a whole load or store of a two-dimensional buffer is zero. -/
theorem hz2 : (![0, 0] : Fin 2 → Nat) = fun _ => 0 := funext fun a => by fin_cases a <;> rfl
omit [FloatOps F] in
/-- So is that of a three-dimensional one. -/
theorem hz3 : (![0, 0, 0] : Fin 3 → Nat) = fun _ => 0 := funext fun a => by fin_cases a <;> rfl

/-- All of a one-row buffer. -/
abbrev rRow : Rect S1x1024 := Rect.unit (s := S1x1024) ![0, 0] S1x1024.size inb_S1x1024_S1x1024_0_0

omit [FloatOps F] in
/-- The load of the whole argument buffer gives its contents. -/
theorem read_x (f : (cc0_stg0_0 : Ref sig .tc).ty.Contents (Elt F)) :
    xM.view.readAt (Elt F) (Rect.unit (s := S2048x1024) ![0, 0] S2048x1024.size inb_S2048x1024_S2048x1024_0_0).toLoadRect f = f :=
  Memref.readAt_unit_zero (Elt F) cc0_stg0_0 hz2 _ f
omit [FloatOps F] in
/-- The load of the whole receive buffer gives its contents. -/
theorem read_r (f : (cc0_scratch1 : Ref sig .tc).ty.Contents (Elt F)) :
    rM.view.readAt (Elt F) (Rect.unit (s := S31x1x1024) ![0, 0, 0] S31x1x1024.size inb_S31x1x1024_S31x1x1024_0_0_0).toLoadRect f = f :=
  Memref.readAt_unit_zero (Elt F) cc0_scratch1 hz3 _ f
omit [FloatOps F] in
/-- The store into the whole send buffer replaces its contents. -/
theorem write_s (f w : (cc0_scratch0 : Ref sig .tc).ty.Contents (Elt F)) :
    (sM.access rRow : View sig .tc _ _ _).write (Elt F) f w Finset.univ = w :=
  Memref.write_access_unit_zero_univ (Elt F) cc0_scratch0 hz2 _ f w
omit [FloatOps F] in
/-- The store into the whole result buffer replaces its contents. -/
theorem write_o (f w : (cc0_stg1_0 : Ref sig .tc).ty.Contents (Elt F)) :
    (oM.access rRow : View sig .tc _ _ _).write (Elt F) f w Finset.univ = w :=
  Memref.write_access_unit_zero_univ (Elt F) cc0_stg1_0 hz2 _ f w

omit [FloatOps F] in
/-- The receive buffer is slots at some contents. -/
theorem slots_some (f : FVec F S31x1x1024 .bf16) :
    (((c : Thread nD τ).loc cc0_scratch1) ↦{fullShare} (f : Buf (Elt F) ((c : Thread nD τ).loc cc0_scratch1)) : sProp 𝕄)
      ⊢ bigSep Finset.univ fun j => iprop(∃ f, slotPts j c f) :=
  (Entails.of_eq (slots_eq c f)).trans (bigSep_mono fun j _ => show slotPts j c f ⊢ iprop(∃ f, slotPts j c f) from by
    iintro H; iexists f; iexact H)

/-- Before the first signal. -/
theorem tell_intro (W : Waits sig Unit) :
    iprop(records m ρ K ∗ owes (c : Thread nD τ) (O₀ c) W ∗ (bigSep Finset.univ fun j => dutyTok ER (barCell (peer c j)) 0 j)
        ∗ ∃ f : Buf (Elt F) ((c : Thread nD τ).loc cc0_scratch1), ((c : Thread nD τ).loc cc0_scratch1) ↦{fullShare} f)
      ⊢ TellInv m ρ K c W Finset.univ := by
  unfold TellInv O₀
  iintro ⟨HR, HO, HT, ⟨%f, Hr⟩⟩
  isplitl [HR]; · iexact HR
  isplitl [HO]; · iexact HO
  iapply (zip (F := F) (fun j => dutyTok ER (barCell (peer c j)) 0 j) (fun j => iprop(∃ f, slotPts j c f)))
  isplitl [HT]; · iexact HT
  iapply (slots_some c f)
  iexact Hr

/-- Before the first copy. -/
theorem send_intro (W : Waits sig Unit) :
    iprop(records m ρ K ∗ owes (c : Thread nD τ) (due Finset.univ c) W
        ∗ (bigSep Finset.univ fun j => iprop(dutyTok ER (sendCell j c) 0 j ∗ dutyTok ER (recvCell j (peer c j)) 0 j))
        ∗ (bigSep Finset.univ fun j => sendPts m ρ (part j) c)
        ∗ bigSep Finset.univ fun j => iprop(∃ f, slotPts j (peer c j) f))
      ⊢ SendInv m ρ K c W Finset.univ := by
  unfold SendInv
  rw [Finset.compl_univ, bigSep_empty, ← bigSep_sep', ← bigSep_sep']
  iintro ⟨HR, HO, H⟩
  isplitl [HR]; · iexact HR
  isplitl [HO]; · iexact HO
  isplitl [H]; · iexact H
  iempintro

/-- Between the last copy and the first wait. -/
theorem wait_intro (W : Waits sig Unit) :
    iprop(SendInv m ρ K c W ∅ ∗ (bigSep Finset.univ fun j => iprop(atPos ER (sendCell j c) 0 ∅ 0 ∗ atPos ER (recvCell j c) 0 ∅ 0))
        ∗ bigSep Finset.univ fun j => cred (tallyAt (recvCell j c) () N))
      ⊢ WaitInv m ρ K c Finset.univ := by
  unfold SendInv WaitInv due
  rw [Finset.compl_univ, bigSep_empty, bigSep_empty, Finset.compl_empty, Finset.sum_empty]
  iintro ⟨⟨HR, HO, -, HC⟩, HA, HV⟩
  isplitl [HR]; · iexact HR
  isplitl [HO]; · iexists W; iexact HO
  isplitl
  · iapply (zip (F := F) (fun j => iprop(atPos ER (sendCell j c) 0 ∅ 0 ∗ atPos ER (recvCell j c) 0 ∅ 0))
      (fun j => iprop(cred (tallyAt (sendCell j c) () N) ∗ cred (tallyAt (recvCell j c) () N))))
    isplitl [HA]; · iexact HA
    iapply (zip (F := F) (fun j => cred (tallyAt (sendCell j c) () N)) (fun j => cred (tallyAt (recvCell j c) () N)))
    isplitl [HC] <;> iassumption
  iempintro

/-- After the last wait. -/
theorem wait_exit :
    WaitInv m ρ K c ∅ ⊢ iprop((∃ W, owes (c : Thread nD τ) 0 W) ∗ (bigSep Finset.univ fun j => sendPts m ρ (part j) c)
        ∗ (bigSep Finset.univ fun j => slotPts j c (landed m ρ c))
        ∗ bigSep Finset.univ fun j => iprop(semVal (sendCell j c) 0 ∗ semVal (recvCell j c) 0)) := by
  unfold WaitInv
  rw [Finset.compl_empty]
  iintro ⟨-, HO, -, H⟩
  isplitl [HO]; · iexact HO
  ihave H := (unzip (F := F) (fun j => iprop(sendPts m ρ (part j) c ∗ slotPts j c (landed m ρ c)))
    (fun j => iprop(semVal (sendCell j c) 0 ∗ semVal (recvCell j c) 0))) $$ H
  icases H with ⟨H, H3⟩
  ihave H := (unzip (F := F) (fun j => sendPts m ρ (part j) c) (fun j => slotPts j c (landed m ρ c))) $$ H
  icases H with ⟨H1, H2⟩
  isplitl [H1]; · iexact H1
  isplitl [H2] <;> iassumption

set_option maxHeartbeats 800000 in
/-- The body runs from its start to its end. -/
theorem sound_body (Kt : PUnit → sProp 𝕄) :
    iprop(bodyPre m ρ K c ∗ (bodyPost m ρ c -∗ Kt ⟨⟩))
      ⊢ Ends c (looped xM oM (Memref.isWhole_whole _) sM (Memref.isWhole_whole _) rM (Memref.isWhole_whole _) cc0_scratch2 cc0_scratch3) Kt := by
  unfold looped
  simp only [Prog.lift, Prog.bind_op, Prog.bind_ret, wp_deviceId]
  unfold bodyPre ghost spots payToks purse buffers
  iintro ⟨⟨⟨⟨#HR, ⟨HaB, HaX⟩, HtB, HtX⟩, ⟨HcB, HcV⟩, #Hlev, ⟨%fs, Hs⟩, Hr⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the peers are told
  ihave HI := (tell_intro m ρ K c W) $$ [HO HtB Hr]
  · isplitr; · iexact HR
    isplitl [HO]; · iexact HO
    isplitl [HtB] <;> iassumption
  iapply (wp_places c (tell_step m ρ K c W Kt)) $$ HI
  unfold TellInv
  iintro ⟨-, HO, -⟩
  rw [show due Finset.univ c + tell ∅ c = due Finset.univ c from by unfold tell; rw [Finset.sum_empty, add_zero]]
  -- its own maximum goes into the send buffer
  unfold prepare
  simp only [semWaitWord, Prog.lift, Prog.bind_op, Prog.bind_ret, Prog.pure_eq_ret]
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := rRow) (Mk := Finset.univ) (Finset.subset_univ _)) $$ Hs; iintro Hs
  rw [write_s]
  ihave Hs := (show (View.loc (c : Thread nD τ) (sM.access rRow) ↦{fullShare} k0_pay3 (xstg m ρ c) : sProp 𝕄) ⊢ _ from
    Entails.of_eq (parts_eq m ρ c)) $$ Hs
  icases Hs with ⟨Hkeep, Hparts⟩
  -- the barrier
  iapply (Rounds.wp_wait_rest_token 𝒱₀ ER (rd m ρ) (c : Thread nD τ) none (κ := K (c, .inl ()))
      (wpE_semWait_eq 𝒱₀ (c : Thread nD τ) none Set.univ) (Set.mem_univ _) () (O := due Finset.univ c) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c Finset.univ); iexact Hlev
    iexact HaB
  iintro ⟨HO, HaB, -, Hpay⟩
  ihave Hpeers := (Entails.of_eq (rest_bar m ρ c)) $$ Hpay
  imod (Rounds.cell_close ER (rd m ρ) (Set.mem_univ (K (c, .inl ()))) (fun h => h) (R := 0 + 1) (duties_later m ρ (barCell c))) $$ [HaB] with HzB
  · isplitr; · iapply (inv_bar m ρ K c); iexact HR
    iexact HaB
  -- the copies
  ihave HI := (send_intro m ρ K c _) $$ [HO HtX Hparts Hpeers]
  · isplitr; · iexact HR
    isplitl [HO]; · iexact HO
    isplitl [HtX]; · iexact HtX
    isplitl [Hparts] <;> iassumption
  iapply (wp_places c (send_step m ρ K c _ Kt)) $$ HI
  iintro HI
  -- the waits
  ihave HI := (wait_intro m ρ K c _) $$ [HI HaX HcV]
  · isplitl [HI]; · iexact HI
    isplitl [HaX] <;> iassumption
  iapply (wp_places c (wait_step m ρ K c Kt)) $$ HI
  iintro HI
  ihave HI := (wait_exit m ρ K c) $$ HI
  icases HI with ⟨⟨%W', HO⟩, Hparts, Hslots, HzX⟩
  ihave Hs := (Entails.of_eq (parts_eq m ρ c).symm) $$ [Hkeep Hparts]
  · isplitl [Hkeep] <;> iassumption
  ihave Hr := (Entails.of_eq (slots_eq c (landed m ρ c)).symm) $$ Hslots
  -- the result
  unfold finish
  simp only [Prog.lift, Prog.bind_op, Prog.bind_ret]
  iapply (wp_load 𝒱₀ (c : Thread nD τ) none Set.univ (m := rM) (Finset.subset_univ _)) $$ Hr; iintro Hr
  rw [read_r]
  iapply (wp_load 𝒱₀ (c : Thread nD τ) none Set.univ (m := oM) (Finset.subset_univ _)) $$ Hout; iintro Hout
  iapply (wp_store 𝒱₀ (c : Thread nD τ) none Set.univ (m := oM) (r := rRow) (Mk := Finset.univ) (Finset.subset_univ _)) $$ Hout; iintro Hout
  rw [write_o, wp_ret]; imodintro
  iapply Hk
  unfold bodyPost Φ₁ buffers zeros Dat.owesAt Pipeline.owesWithin
  rw [show (dats m ρ 0 c).owed t₀.succ = 0 from rfl]
  isplitl [Hs Hr HzB HzX]
  · isplitl [Hs Hr]
    · isplitl [Hs]; · iexists _; iexact Hs
      iexists _; iexact Hr
    isplitl [HzB] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The body's obligation to the launch. -/
theorem body_obligation : BodyObligation (dats (F := F) m ρ 0 c) (defs₀ (F := F)) 𝒱₀ () Set.univ := fun t => by
  rw [fin_N t]
  rw [bigSep_W0, bigSep_W0]
  simp only [owns_whole_eq]
  show iprop(Φ₀ m ρ c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ wp frame (wpE (defs₀ (F := F)) 𝒱₀ c none) Set.univ
      (cc0_body xM (Memref.isWhole_whole _) oM (Memref.isWhole_whole _) sM (Memref.isWhole_whole _) rM (Memref.isWhole_whole _)
        cc0_scratch2 cc0_scratch3) (fun _ => bodyPost m ρ c)
  rw [body_eq_looped]
  unfold Φ₀ start
  iintro ⟨⟨⟨⟨%K, Hg⟩, Hp, Hl⟩, Hb⟩, Ho, Hx, Hout⟩
  iapply (sound_body m ρ K c fun _ => bodyPost m ρ c)
  unfold bodyPre
  isplitr []
  · isplitl [Hg Hp Hl Hb]
    · isplitl [Hg]; · iexact Hg
      isplitl [Hp]; · iexact Hp
      isplitl [Hl] <;> iassumption
    isplitl [Ho]; · iexact Ho
    isplitl [Hx] <;> iassumption
  · iintro H; iexact H

end Body

end Cert.KernelIdeal.Gather

end
-- ==== Proof.KernelIdeal.Run.lean ====
/- The run of the whole program on all the devices: the ghost state is dealt out, each device gets the tokens of
   the payments it makes, and the launch theorem is applied to the body's obligation. -/
module

public import proofs.«01_k».proof.Proof.KernelIdeal.Body
public import Idealize.ShloMosaic.Lib.Pipeline.CollectiveSegs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The semaphores the kernel declares are scoped, distinct, and none is a staging one. -/
theorem ownSemFacts : Pipeline.OwnSemFacts cfg0.spec osem where
  isScoped := by decide +kernel
  inj a b h := Sum.inr_injective (csem_injective (a₁ := .inr a) (a₂ := .inr b) h)
  disj := by decide +kernel

/-- A staging semaphore has no name in the exchange, so it is of the lowest rank. -/
theorem rank_stage (w : Fin cfg0.W) (s : Fin (cfg0.win w).nbuf) : rank (spotOf (.dma ((cfg0.win w).sem s))) = 0 := by
  rcases h : spotOf (.dma ((cfg0.win w).sem s)) with _ | k
  · rfl
  · have e := csem_of_spotOf h
    rcases k with u | k
    · cases e
    · exact absurd e.symm (ownSemFacts.disj k w s)

/-- Every array is held whole. -/
theorem share_eq (c : Dev nD) (w : Fin cfg0.W) : (dats m ρ 0 c).share w = fullShare := by unfold Dat.share; split <;> rfl

/-! ## The ghost state as minted -/

/-- All the semaphores of the exchange. -/
def allCells : Finset (GSem nD τ sig) := Finset.univ.map ⟨kcell, kcell_injective⟩

/-- The payments to one device: a barrier signal from each place, a finished send and a received copy for each. -/
abbrev Pay : Type := Fin 31 ⊕ (Fin 31 ⊕ Fin 31)
/-- The semaphore a payment goes to. -/
abbrev paySpot : Pay → Spot
  | .inl _ => .inl ()
  | .inr k => .inr k
/-- The place it is paid from. -/
abbrev payPlace : Pay → Fin 31
  | .inl j => j
  | .inr (.inl j) => j
  | .inr (.inr j) => j
/-- A payment's token. -/
abbrev tokOf (x : Dev nD × Pay) : GSem nD τ sig × ℕ × Fin 31 := (kcell (x.1, paySpot x.2), 0, payPlace x.2)

/-- A payment is known by its semaphore and its place. -/
theorem pay_ext : ∀ {a b : Pay}, paySpot a = paySpot b → payPlace a = payPlace b → a = b
  | .inl _, .inl _, _, h => congrArg _ h
  | .inl _, .inr _, h, _ => by cases h
  | .inr _, .inl _, h, _ => by cases h
  | .inr _, .inr _, h, _ => congrArg _ (Sum.inr_injective h)

/-- Different payments have different tokens. -/
theorem tokOf_injective : Function.Injective tokOf := by
  rintro ⟨c, a⟩ ⟨c', b⟩ h
  have h1 : (c, paySpot a) = (c', paySpot b) := kcell_injective (congrArg Prod.fst h)
  have h2 : payPlace a = payPlace b := congrArg (fun x : GSem nD τ sig × ℕ × Fin 31 => x.2.2) h
  exact Prod.ext (Prod.mk.inj h1).1 (pay_ext (Prod.mk.inj h1).2 h2)

/-- All the tokens. -/
def allToks : Finset (GSem nD τ sig × ℕ × Fin 31) := Finset.univ.map ⟨tokOf, tokOf_injective⟩

/-- The element the launch starts from. -/
def u₀ : UU :=
  (initOf (Pipeline.cells cfgs cellOf_inj) (Pipeline.launchToks cfgs cellOf_inj), initOf allCells allToks)

/-- The tokens of the payments TO a device. -/
def toks (c : Dev nD) : sProp 𝕄 :=
  iprop((bigSep Finset.univ fun j => dutyTok ER (barCell c) 0 j)
    ∗ (bigSep Finset.univ fun j => dutyTok ER (sendCell j c) 0 j) ∗ bigSep Finset.univ fun j => dutyTok ER (recvCell j c) 0 j)

/-- What the launch element gives for a device. -/
def G (c : Dev nD) : sProp 𝕄 :=
  iprop((bigSep Finset.univ fun k : Spot => roundState ER (rd m ρ) (kcell (c, k)) 0)
    ∗ (bigSep Finset.univ fun k : Spot => iprop(atPos ER (kcell (c, k)) 0 ∅ 0 ∗ reached ER (kcell (c, k)) 0)) ∗ toks c)

/-- What a device holds of it once all is set up. -/
def G' (c : Dev nD) : sProp 𝕄 := iprop(∃ K, ghost m ρ K c)

omit [FloatOps F] in
/-- A family over the names, name kind by name kind. -/
theorem by_kind (Φ : Spot → sProp 𝕄) :
    bigSep Finset.univ Φ = iprop(Φ (.inl ()) ∗ bigSep Finset.univ fun j => iprop(Φ (.inr (.inl j)) ∗ Φ (.inr (.inr j)))) := by
  rw [bigSep_univ_sum, bigSep_univ_of_subsingleton (), bigSep_univ_sum, bigSep_sep']; rfl

/-- The launch element makes each device's part. -/
theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Spot => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
/-- A device's semaphores at zero: the barrier's, and those the kernel declares. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_sum, bigSep_sep']; rfl

/-- A device's semaphores become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Spot => iprop(∃ κ : ℕ, cellInv ER (rd m ρ) κ (kcell (c, k))))
          ∗ (bigSep Finset.univ fun k : Spot => iprop(atPos ER (kcell (c, k)) 0 ∅ 0 ∗ reached ER (kcell (c, k)) 0)) ∗ toks c) := by
  have hv : iprop(unscopedSems0 c ∗ Pipeline.ownSems0 (Ix := Unit) (Name := ℕ) (U := UU) (Lvl := ℕ) (Val := Elt F) (τ := τ) osem c)
      ⊢ (bigSep Finset.univ fun k : Spot => semVal (kcell (c, k)) 0 : sProp 𝕄) :=
    Entails.of_eq ((zeros_eq (F := F) c).symm.trans (by unfold zeros; rw [by_kind]; rfl))
  have ha : iprop((bigSep Finset.univ fun k : Spot => semVal (kcell (c, k)) 0) ∗ bigSep Finset.univ fun k : Spot => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hat, Htok⟩
  ihave Hv := hv $$ [Hos Hus]
  · isplitl [Hus] <;> iassumption
  imod ha $$ [Hv Hst] with Hinv
  · isplitl [Hv] <;> iassumption
  imodintro
  isplitl [Hinv]; · iexact Hinv
  isplitl [Hat] <;> iassumption

/-! ## Each token to the device that pays -/

/-- Going to the peer at a place is a rearrangement of the devices. -/
def flip (j : Fin 31) : Dev nD ≃ Dev nD := ⟨fun c => peer c j, fun c => peer c j, fun c => peer_peer c j, fun c => peer_peer c j⟩

omit [FloatOps F] in
/-- Families over devices and places may be dealt to the peers instead. -/
theorem to_peers (Φ : Dev nD → Fin 31 → sProp 𝕄) :
    (bigSep Finset.univ fun c => bigSep Finset.univ fun j => Φ c j) = bigSep Finset.univ fun c => bigSep Finset.univ fun j => Φ (peer c j) j := by
  rw [bigSep_univ_comm, bigSep_congr fun j _ => bigSep_univ_equiv (flip j) fun c => Φ c j, bigSep_univ_comm]
  rfl

omit [FloatOps F] in
/-- The tokens of the payments to each device are those of the payments by each device. -/
theorem toks_around : (bigSep Finset.univ fun c : Dev nD => (toks c : sProp 𝕄)) ⊢ bigSep Finset.univ fun c : Dev nD => payToks c := by
  unfold toks payToks
  simp only [bigSep_sep']
  rw [to_peers (F := F) fun c j => dutyTok ER (barCell c) 0 j, to_peers (F := F) fun c j => dutyTok ER (recvCell j c) 0 j]

/-- What is a device's alone. -/
def linear (c : Dev nD) : sProp 𝕄 := iprop(spots c ∗ payToks c)

/-- With the invariants' names it makes a device's ghost state. -/
theorem ghost_intro (K : Dev nD × Spot → ℕ) (c : Dev nD) : iprop(records m ρ K ∗ linear c) ⊢ G' m ρ c := by
  unfold linear G' ghost
  iintro ⟨HR, Hs, Hp⟩
  iexists K
  isplitl [HR]; · iexact HR
  isplitl [Hs] <;> iassumption

omit [FloatOps F] in
/-- What may be used any number of times goes to every member of a family. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans
    ((Entails.of_eq (bigSep_sep' Finset.univ (fun _ => R) Φ).symm).trans (bigSep_mono fun c _ => h c))

/-- From the invariants of every device to the ghost state of each. -/
theorem regroup :
    (bigSep Finset.univ fun c : Dev nD => iprop((bigSep Finset.univ fun k : Spot => iprop(∃ κ : ℕ, cellInv ER (rd m ρ) κ (kcell (c, k))))
          ∗ (bigSep Finset.univ fun k : Spot => iprop(atPos ER (kcell (c, k)) 0 ∅ 0 ∗ reached ER (kcell (c, k)) 0)) ∗ toks c) : sProp 𝕄)
      ⊢ bigSep Finset.univ (G' m ρ) := by
  have hspots : (bigSep Finset.univ fun c : Dev nD => bigSep Finset.univ fun k : Spot => (atPos ER (kcell (c, k)) 0 ∅ 0 : sProp 𝕄))
      = bigSep Finset.univ fun c : Dev nD => spots c :=
    bigSep_congr fun c _ => (by_kind (F := F) fun k => atPos ER (kcell (c, k)) 0 ∅ 0).trans (by unfold spots; rfl)
  have hlin : iprop((bigSep Finset.univ fun c : Dev nD => spots c) ∗ bigSep Finset.univ fun c : Dev nD => payToks c)
      ⊢ (bigSep Finset.univ fun c : Dev nD => linear c : sProp 𝕄) := by
    unfold linear; exact Entails.of_eq (bigSep_sep' _ _ _).symm
  simp only [bigSep_sep']
  rw [hspots, ← bigSep_univ_prod (fun ck : Dev nD × Spot => iprop(∃ κ : ℕ, cellInv ER (rd m ρ) κ (kcell ck))),
    ← bigSep_univ_prod (fun ck : Dev nD × Spot => (reached ER (kcell ck) 0 : sProp 𝕄))]
  iintro ⟨HI, ⟨Hat, HR⟩, Htok⟩
  ihave HK := (BI.bigSep_exists_pi Finset.univ (fun (ck : Dev nD × Spot) (κ : ℕ) => (cellInv ER (rd m ρ) κ (kcell ck) : sProp 𝕄))) $$ HI
  icases HK with ⟨%K, HI⟩
  ihave Htok := (toks_around (F := F)) $$ Htok
  iapply (share_out (R := records m ρ K) (ghost_intro m ρ K))
  isplitl [HI HR]
  · unfold records
    isplitl [HI] <;> iassumption
  iapply hlin
  isplitl [Hat] <;> iassumption

/-- The set-up of all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- The peer's peer, across an equation. -/
theorem eq_peer_iff {a b : Dev nD} {j : Fin 31} : Iff (a = peer b j) (b = peer a j) :=
  ⟨fun h => by rw [h, peer_peer], fun h => by rw [h, peer_peer]⟩

/-- What a device owes to another's barrier: the signal from each place where the one is the other's peer. -/
theorem owed_bar (d c : Dev nD) : O₀ d (barCell c) () = ∑ j : Fin 31, if d = peer c j then 1 else 0 := by
  have h0 : due Finset.univ d (barCell c) () = 0 := Nat.eq_zero_of_not_pos fun h => by
    obtain ⟨j, hj⟩ := due_pos h
    have := congrArg Prod.snd (kcell_injective (a₁ := (c, .inl ())) (a₂ := (peer d j, .inr (.inr j))) hj)
    cases this
  unfold O₀ tell
  rw [Pi.add_apply, Finsupp.add_apply, h0, Nat.zero_add, Finset.sum_apply, Finsupp.finset_sum_apply]
  refine Finset.sum_congr rfl fun j _ => ?_
  rw [tallyAt_apply]
  refine if_congr ⟨fun h => ?_, fun h => ⟨by rw [h, peer_peer], rfl⟩⟩ rfl rfl
  exact eq_peer_iff.mp (congrArg Prod.fst (kcell_injective (a₁ := (c, .inl ())) (a₂ := (peer d j, .inl ())) h.1))

/-- What a device owes to another's receive semaphore at a place: a copy if it is the peer there. -/
theorem owed_recv (d c : Dev nD) (j : Fin 31) : O₀ d (recvCell j c) () = if d = peer c j then N else 0 := by
  have h0 : tell Finset.univ d (recvCell j c) () = 0 := Nat.eq_zero_of_not_pos fun h => by
    obtain ⟨j', hj⟩ := sum_tally_pos _ _ _ h
    have := congrArg Prod.snd (kcell_injective (a₁ := (c, .inr (.inr j))) (a₂ := (peer d j', .inl ())) hj)
    cases this
  unfold O₀ due
  rw [Pi.add_apply, Finsupp.add_apply, h0, Nat.add_zero, Finset.sum_apply, Finsupp.finset_sum_apply,
    Finset.sum_eq_single j]
  · rw [tallyAt_apply]
    refine if_congr ⟨fun h => ?_, fun h => ⟨by rw [h, peer_peer], rfl⟩⟩ rfl rfl
    exact eq_peer_iff.mp (congrArg Prod.fst (kcell_injective (a₁ := (c, .inr (.inr j))) (a₂ := (peer d j, .inr (.inr j))) h.1))
  · intro j' _ hj
    rw [tallyAt_apply, if_neg]
    rintro ⟨h, -⟩
    have := congrArg Prod.snd (kcell_injective (a₁ := (c, .inr (.inr j))) (a₂ := (peer d j', .inr (.inr j'))) h)
    exact hj (Sum.inr_injective (Sum.inr_injective this)).symm
  · exact fun h => absurd (Finset.mem_univ _) h

/-- A semaphore's launch credit, from what all the devices owe it. -/
theorem launch_of (g : GSem nD τ sig) (n : ℕ) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The barrier's is one signal per place. -/
theorem launch_bar (c : Dev nD) :
    tallyOn (barCell c) (launchCredit (Pipeline.owing O₀) 0 (barCell c)) = (tallyAt (barCell c) () 31 : CellTallies nD τ sig Unit) :=
  launch_of _ _ (by
    rw [Finset.sum_congr rfl fun d _ => owed_bar d c, Finset.sum_comm]
    simp only [Finset.sum_ite_eq', Finset.mem_univ, if_true]
    rfl)

/-- A receive semaphore's is one copy. -/
theorem launch_recv (c : Dev nD) (j : Fin 31) :
    tallyOn (recvCell j c) (launchCredit (Pipeline.owing O₀) 0 (recvCell j c)) = (tallyAt (recvCell j c) () N : CellTallies nD τ sig Unit) :=
  launch_of _ _ (by
    rw [Finset.sum_congr rfl fun d _ => owed_recv d c j, Finset.sum_ite_eq', if_pos (Finset.mem_univ _)])

/-- The semaphores with credit at launch. -/
def credited : Unit ⊕ Fin 31 ↪ SemLoc sig :=
  ⟨fun k => csem (Sum.map id Sum.inr k), csem_injective.comp (Function.Injective.sumMap Function.injective_id Sum.inr_injective)⟩

omit [FloatOps F] in
/-- The credit each device starts with. -/
theorem creds (c : Dev nD) : (Pipeline.launchCred O₀ c : sProp 𝕄) ⊢ purse c := by
  have h : (bigSep (Finset.univ.map credited) fun sm : SemLoc sig =>
        (cred (tallyOn ((c : Thread nD τ), sm) (launchCredit (Pipeline.owing O₀) 0 ((c : Thread nD τ), sm))) : sProp 𝕄)) = purse c := by
    unfold purse
    rw [bigSep_map, bigSep_univ_sum, bigSep_univ_of_subsingleton (), ← launch_bar]
    refine congrArg _ (bigSep_congr fun j _ => ?_)
    rw [← launch_recv]
    rfl
  unfold Pipeline.launchCred
  exact (bigSep_subset (Finset.subset_univ _)).trans (Entails.of_eq h)

/-! ## The launch's conditions -/

/-- What each device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The body's start, from the kernel's entry. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hr⟩
  isplitl [Hs] <;> iassumption

/-- The kernel's exit, from the body's end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [zeros_eq]
  unfold buffers
  iintro ⟨Hr, HzB, HzX⟩
  isplitl [HzB]; · iexact HzB
  isplitl [HzX] <;> iassumption

/-- The staging semaphores may be waited for at any time. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (rank_stage w s) _ (by
      rcases t with ⟨_ | _, ht⟩
      · exact Or.inl rfl
      · exact Or.inr rfl)

/-! ## The run -/

/-- What an array of the launch ends with. -/
def finalA (c : Dev nD) (w : Fin cfg0.W) : Buf (Elt F) ((cfg0.win w).arr.view.loc (c : Thread nD τ)) := (dats m ρ 0 c).arrAt w cfg0.N

set_option maxRecDepth 8000 in
/-- From any contents, every fair run of the program ends, with the arrays at their final contents and every
    semaphore at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it was. -/
theorem finalA_x (c : Dev nD) : finalA m ρ c (0 : Fin 2) = m ((c : Thread nD τ).loc main_arg0) :=
  (dats (F := F) m ρ 0 c).arrAt_in (0 : Fin 2) rfl _

omit [FloatOps F] in
/-- The result's block is all of it. -/
theorem read_blk_o (f : (main_v1 : Ref sig .tc).ty.Contents (Elt F)) : (win0_1.blk (0 : Fin 1)).view.read (Elt F) f = f :=
  Memref.read_access_unit_zero (Elt F) main_v1 (off := fun a => (win0_1.index (0 : Fin 1)) a * main_v1.ty.shape.size a)
    (funext fun a => Nat.zero_mul _) _ f

/-- The staged block of the argument is all of it. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => Nat.zero_mul _) _ _

/-- The result ends at what the body computed. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (read_blk_o _).symm.trans h

/-- The run in terms of the program's own buffers. -/
theorem run_named : θ_run defs (onTc (τ := τ) (main (F := F))) ⟨m, fun _ => 0, ρ⟩ (fun r =>
    ((∀ c : Dev nD, r.2.mem ((c.tc : Thread nD τ).loc main_v1) = outAt m ρ c
      ∧ r.2.mem ((c.tc : Thread nD τ).loc main_arg0) = m ((c.tc : Thread nD τ).loc main_arg0))) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.KernelIdeal.Gather

end
-- ==== Proof.Value.lean ====
/- The kernel's result is the reference's: both are the greatest entry of each column of the whole argument.
   A maximum is known by the bounds above it, so each side is read as "every entry is at most `b`". -/
module

public import proofs.«01_k».proof.Proof.KernelIdeal.Run
public import proofs.«01_k».proof.Proof.Gen.ReferenceIdeal.Run
public import Idealize.ShloMosaic.PureOps.Ideal.Laws
public import Idealize.ShloMosaic.Lib.Pipeline.Value
public import Idealize.ShloMosaic.Lib.Layout

@[expose] public section

noncomputable section

namespace Cert.Value

open Idealize.ShloMosaic
open Idealize.ShloMosaic.TcCoe
open Idealize.ShloMosaic.ValueIdx (ix1 ix2 ix3)
open Cert.KernelIdeal Cert.KernelIdeal.Gen Cert.KernelIdeal.Gather

/-- The pattern every maximum starts from is the least value. -/
theorem start_bot : (FloatOps.ofBits .bf16 0xFF80#16 : Ideal .bf16) = ⊥ := by
  show Ideal.ofBits .bf16 0xFF80#16 = ⊥
  simp [Ideal.ofBits, Ideal.ieee, -EReal.coe_mul]

/-- A maximum over a set is at most `b` when every member is. -/
theorem fold_le {I : Type} (s : Finset I) (f : I → EReal) (b : EReal) :
    s.fold (FloatOps.maximumf (F := Ideal) (φ := .bf16)) (FloatOps.ofBits .bf16 0xFF80#16 : Ideal .bf16) f ≤ b ↔ ∀ i ∈ s, f i ≤ b := by
  rw [start_bot]
  exact (Finset.fold_max_le (b := (⊥ : EReal)) (f := f) b).trans ⟨fun h => h.2, fun h => ⟨bot_le, h⟩⟩

/-- A reduction by the maximum is at most `b` when every entry it takes in is. -/
theorem reduction_le {s t : Shape} {axes : List (Fin s.rank)} (src : FVec Ideal s .bf16) (h : s.Reduces axes t) (hφ : FKind.Formats .bf16)
    (hacc : (0xFF80#16 : BitVec 16) = FKind.maximumf.neutral .bf16 hφ) (j : t.Idx) (b : EReal) :
    multiReduction .maximumf axes t src 0xFF80#16 h hφ hacc j ≤ b ↔ ∀ i, h.drop i = j → src i ≤ b := by
  rw [multiReduction_maximumf_eq_fold, fold_le]
  exact forall_congr' fun i => by rw [Finset.mem_filter]; exact ⟨fun g e => g ⟨Finset.mem_univ _, e⟩, fun g e => g e.2⟩

/-- An index of a row is known by its column. -/
theorem idx_row (i : S1x1024.Idx) : ∃ y : Fin 1024, i = ix2 ⟨0, Nat.one_pos⟩ y :=
  ⟨i 1, (ValueIdx.eq_ix2 i).trans (congrArg (fun a : Fin 1 => (ix2 a (i 1) : (⟨2, ![1, 1024]⟩ : Shape).Idx)) (Subsingleton.elim (α := Fin 1) _ _))⟩

/-- A device's own maximum of a column. -/
theorem own_le (x : FVec Ideal S2048x1024 .bf16) (y : Fin 1024) (b : EReal) :
    k0_pay2 (F := Ideal) x (ix2 ⟨0, Nat.one_pos⟩ y) ≤ b ↔ ∀ r : Fin 2048, x (ix2 r y) ≤ b := by
  unfold k0_pay2
  dsimp only
  rw [shapeCast_self]
  refine (iff_of_eq (congrArg (· ≤ b) (shapeCast_addUnit_apply (![1024]) _ _ _))).trans ?_
  refine (reduction_le _ _ _ _ _ _).trans ?_
  constructor
  · intro h r
    refine h _ (funext fun a => ?_)
    match a with | ⟨0, _⟩ => rfl
  · intro h i hi
    have e := congrFun hi 0
    have e1 : i 1 = y := Fin.ext (congrArg Fin.val e)
    rw [ValueIdx.eq_ix2 i, e1]
    exact h (i 0)

/-- What is sent is that maximum. -/
theorem sent_eq (x : FVec Ideal S2048x1024 .bf16) : k0_pay3 (F := Ideal) x = k0_pay2 x := by
  unfold k0_pay3; exact shapeCast_self _ _

/-- The maximum of a device's own row and the rows stacked from its peers. -/
theorem all_le (v : FVec Ideal S1x1024 .bf16) (f : Fin 31 → FVec Ideal S1x1024 .bf16) (y : Fin 1024) (b : EReal) :
    k0_pay1 (F := Ideal) v (stack f) (ix2 ⟨0, Nat.one_pos⟩ y) ≤ b
      ↔ v (ix2 ⟨0, Nat.one_pos⟩ y) ≤ b ∧ ∀ j, f j (ix2 ⟨0, Nat.one_pos⟩ y) ≤ b := by
  unfold k0_pay1
  dsimp only
  refine (max_le_iff (a := v (ix2 ⟨0, Nat.one_pos⟩ y)) (c := b)).trans (and_congr_right fun _ => ?_)
  refine (iff_of_eq (congrArg (· ≤ b) (shapeCast_addUnit_apply (![1024]) _ _ _))).trans ?_
  refine (reduction_le _ _ _ _ _ _).trans ?_
  constructor
  · intro h j
    refine h (ix3 j ⟨0, Nat.one_pos⟩ y) (funext fun a => ?_)
    match a with | ⟨0, _⟩ => rfl
  · intro h i hi
    have e := congrFun hi 0
    have e2 : (⟨(i 2).val, (i 2).isLt⟩ : Fin 1024) = y := Fin.ext (congrArg Fin.val e)
    show f ⟨(i 0).val, (i 0).isLt⟩ (ix2 ⟨0, Nat.one_pos⟩ ⟨(i 2).val, (i 2).isLt⟩) ≤ b
    rw [e2]
    exact h _

/-- Every other device is the peer at some place. -/
theorem peers_all : ∀ c d : Dev nD, d = c ∨ ∃ j, d = peer c j := by decide +kernel

/-- The reference's value of the whole argument. -/
abbrev refOut (X : FVec Ideal Cert.ReferenceIdeal.S65536x1024 .bf16) : FVec Ideal S1x1024 .bf16 :=
  broadcastInDim Cert.ReferenceIdeal.S1x1024 ![1] Cert.ReferenceIdeal.Gen.bcast_S1024_S1x1024_1
    (Host.reduce FloatOps.maximumf X (constant Cert.ReferenceIdeal.S_ .bf16 0xFF80#16)
      Cert.ReferenceIdeal.Gen.reducesTo_S65536x1024_S1024_d0 Cert.ReferenceIdeal.Gen.h_S_)

/-- It is the maximum of a column of all the rows. -/
theorem ref_le (X : FVec Ideal Cert.ReferenceIdeal.S65536x1024 .bf16) (y : Fin 1024) (b : EReal) :
    refOut X (ix2 ⟨0, Nat.one_pos⟩ y) ≤ b ↔ ∀ r : Fin 65536, X (ix2 r y) ≤ b := by
  unfold refOut broadcastInDim
  rw [Host.reduce_eq_fold]
  refine (fold_le _ X b).trans ?_
  constructor
  · intro h r
    refine h _ (Finset.mem_filter.mpr ⟨Finset.mem_univ _, funext fun a => ?_⟩)
    match a with | ⟨0, _⟩ => rfl
  · intro h i hi
    have e := congrFun (Finset.mem_filter.mp hi).2 0
    have e1 : i 1 = y := Fin.ext (congrArg Fin.val e)
    rw [ValueIdx.eq_ix2 i, e1]
    exact h (i 0)

/-- A device's row among all the rows. -/
def rowAt (d : Dev nD) (r : Fin 2048) : Fin 65536 :=
  ⟨d.val * 2048 + r.val, by have := d.isLt; have := r.isLt; simp only [nD] at *; omega⟩

/-- Every row is some device's. -/
theorem rowAt_all (r : Fin 65536) : ∃ d r', rowAt d r' = r :=
  ⟨⟨r.val / 2048, by have := r.isLt; simp only [nD]; omega⟩, ⟨r.val % 2048, Nat.mod_lt _ (by decide)⟩,
    Fin.ext (by simp only [rowAt]; omega)⟩

/-- The kernel's result on each device is the reference's on the whole, if each device has its block of the rows. -/
theorem out_eq (m : (ℓ : Loc nD τ sig) → Buf (Elt Ideal) ℓ) (ρ : Dev nD → PrngReg) (X : FVec Ideal Cert.ReferenceIdeal.S65536x1024 .bf16)
    (h : ∀ c : Dev nD, m ((c.tc : Thread nD τ).loc main_arg0) = Layout.block ⟨2, ![2048, 1024]⟩ ⟨2, ![65536, 1024]⟩ 0 32 c X) (c : Dev nD) :
    outAt m ρ c = refOut X := by
  have hx (d : Dev nD) (y : Fin 1024) (b : EReal) : k0_pay2 (F := Ideal) (xstg m ρ d) (ix2 ⟨0, Nat.one_pos⟩ y) ≤ b
      ↔ ∀ r : Fin 2048, X (ix2 (rowAt d r) y) ≤ b := by
    rw [xstg_eq, h d, own_le]
    refine forall_congr' fun r => iff_of_eq (congrArg (fun i => X i ≤ b) (funext fun a => ?_))
    match a with | ⟨0, _⟩ => rfl | ⟨1, _⟩ => rfl
  funext i
  obtain ⟨y, rfl⟩ := idx_row i
  refine eq_of_forall_ge_iff (α := EReal) fun b => ?_
  unfold outAt landed
  refine (all_le _ _ y b).trans (Iff.trans ?_ (ref_le X y b).symm)
  simp only [sent, sent_eq, hx]
  constructor
  · rintro ⟨h0, h1⟩ r
    obtain ⟨d, r', rfl⟩ := rowAt_all r
    rcases peers_all c d with rfl | ⟨j, rfl⟩
    · exact h0 _
    · exact h1 j _
  · intro hr
    exact ⟨fun r => hr _, fun j r => hr _⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel as printed terminates without fault on every device, leaves its argument unchanged, and every
    semaphore ends at zero. -/
theorem frame_kernel : @Cert.quiescent_Kernel Cert.Kernel.Gen.facts := fun m g _ =>
  (θ_run Cert.Kernel.defs _ _).mono (fun _ h => ⟨fun c => (h.1 c).2, h.2⟩)
    (Cert.Kernel.Gather.run_named (F := Bits) m g)

/-- So does the kernel over the extended reals. -/
theorem frame_ideal : @Cert.quiescent_KernelIdeal Cert.KernelIdeal.Gen.facts := fun m g _ =>
  (θ_run Cert.KernelIdeal.defs _ _).mono (fun _ h => ⟨fun c => (h.1 c).2, h.2⟩)
    (Cert.KernelIdeal.Gather.run_named (F := Ideal) m g)

/-- The reference over the extended reals terminates and leaves its argument unchanged; it has no semaphores. -/
theorem frame_reference : @Cert.quiescent_ReferenceIdeal Cert.ReferenceIdeal.Gen.facts := fun m g _ =>
  (θ_run Cert.ReferenceIdeal.defs _ _).mono
    (fun r h => ⟨fun c => (h c).2, sem_eq_zero_of_no_sems (by decide) r.2⟩)
    (Cert.ReferenceIdeal.Value.run (F := Ideal) m g)

/-- When every device holds its block of rows of the reference's argument, every device's result is the reference's
    result. -/
theorem algebraic :
    @Cert.algebraic_KernelIdeal_ReferenceIdeal Cert.KernelIdeal.Gen.facts Cert.ReferenceIdeal.Gen.facts :=
  fun m g m' g' _ h =>
    ⟨Cert.Value.refOut (m' (((0 : Dev Cert.ReferenceIdeal.nD).tc : Thread Cert.ReferenceIdeal.nD Cert.ReferenceIdeal.τ).loc
        Cert.ReferenceIdeal.main_arg0)),
      (θ_run Cert.KernelIdeal.defs _ _).mono
        (fun _ hr c => ⟨(hr.1 c).1.trans (Cert.Value.out_eq m g _ h c), (hr.1 c).2⟩)
        (Cert.KernelIdeal.Gather.run_named (F := Ideal) m g),
      (θ_run Cert.ReferenceIdeal.defs _ _).mono (fun _ hr => hr 0)
        (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
